-- ==== Defs.lean ====
def Pre_Kernel [hPre_regimes_in_range : Cert.Pre_regimes_in_range.Facts] (m : (ℓ : Loc Cert.Kernel.nD Cert.Kernel.τ Cert.Kernel.sig) → Buf (Elt Bits) ℓ) : Prop :=
  ∀ c : Dev Cert.Kernel.nD,
    (Cert.Pre_regimes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_regimes_in_range : Cert.Pre_regimes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_regimes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_regimes_in_range : Cert.Pre_regimes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_regimes_in_range : Cert.Pre_regimes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "half_over_c" .f32 0x3F3504F3#32 ((8388608 / 11863283 : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_regimes_in_range : Cert.Pre_regimes_in_range.Facts) (hPre_finite_in_range : Cert.Pre_finite_in_range.Facts),
    quiescent_Kernel (hKernel := hKernel) (hPre_regimes_in_range := hPre_regimes_in_range)
    ∧ quiescent_KernelIdeal (hKernelIdeal := hKernelIdeal) (hPre_regimes_in_range := hPre_regimes_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S16x64x64x256 : Shape := ⟨4, ![16, 64, 64, 256]⟩
abbrev S16 : Shape := ⟨1, ![16]⟩
abbrev S8x256x256 : Shape := ⟨3, ![8, 256, 256]⟩
abbrev S8x256 : Shape := ⟨2, ![8, 256]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  bcast_S_S8x256x256 : S_.BroadcastsInDim S8x256x256 (![] : Fin 0 → Fin S8x256x256.rank)
  reducesTo_S8x256x256_S_d0_1_2 : S8x256x256.ReducesTo [0, 1, 2] S_
  bcast_S_S8x256 : S_.BroadcastsInDim S8x256 (![] : Fin 0 → Fin S8x256.rank)
  reducesTo_S8x256_S_d0_1 : S8x256.ReducesTo [0, 1] S_

variable [Facts]

def fn_part1 {F : FTy → Type} [FloatOps F] (main_arg4 : FVec F S8x256x256 .f32) (main_arg5 : FVec F S8x256 .f32) (main_v15 : IVec S_ 1) (main_v16 : FVec F S8x256 .f32) : IVec S_ 1 :=
  let main_cst_5 : FVec F S_ .f32 := constant S_ .f32 0x7F800000#32
  let main_v17 : FVec F S8x256 .f32 := broadcastInDim S8x256 ![] bcast_S_S8x256 main_cst_5
  let main_v18 : IVec S8x256 1 := cmpf .olt main_v16 main_v17
  let main_c_6 : IVec S_ 1 := constantI S_ 1 1#1
  let main_v19 : IVec S_ 1 := (fun x v => Host.reduce IntOp.andi x v reducesTo_S8x256_S_d0_1 h_S_) main_v18 main_c_6
  let main_v20 : IVec S_ 1 := andi main_v15 main_v19
  let main_v21 : FVec F S8x256x256 .f32 := Host.absf main_arg4
  let main_cst_7 : FVec F S_ .f32 := constant S_ .f32 0x7F800000#32
  let main_v22 : FVec F S8x256x256 .f32 := broadcastInDim S8x256x256 ![] bcast_S_S8x256x256 main_cst_7
  let main_v23 : IVec S8x256x256 1 := cmpf .olt main_v21 main_v22
  let main_c_8 : IVec S_ 1 := constantI S_ 1 1#1
  let main_v24 : IVec S_ 1 := (fun x v => Host.reduce IntOp.andi x v reducesTo_S8x256x256_S_d0_1_2 h_S_) main_v23 main_c_8
  let main_v25 : IVec S_ 1 := andi main_v20 main_v24
  let main_v26 : FVec F S8x256 .f32 := Host.absf main_arg5
  let main_cst_9 : FVec F S_ .f32 := constant S_ .f32 0x7F800000#32
  let main_v27 : FVec F S8x256 .f32 := broadcastInDim S8x256 ![] bcast_S_S8x256 main_cst_9
  let main_v28 : IVec S8x256 1 := cmpf .olt main_v26 main_v27
  let main_c_10 : IVec S_ 1 := constantI S_ 1 1#1
  let main_v29 : IVec S_ 1 := (fun x v => Host.reduce IntOp.andi x v reducesTo_S8x256_S_d0_1 h_S_) main_v28 main_c_10
  let main_v30 : IVec S_ 1 := andi main_v25 main_v29
  main_v30

def fn {F : FTy → Type} [FloatOps F] (main_arg0 : FVec F S16x64x64x256 .f32) (main_arg1 : IVec S16 32) (main_arg2 : FVec F S8x256x256 .f32) (main_arg3 : FVec F S8x256 .f32) (main_arg4 : FVec F S8x256x256 .f32) (main_arg5 : FVec F S8x256 .f32) (main_arg6 : FVec F S8x256 .f32) (main_arg7 : FVec F S8x256 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 8#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_v6 : FVec F S16x64x64x256 .f32 := Host.absf main_arg0
  let main_cst : FVec F S_ .f32 := constant S_ .f32 0x7F800000#32
  let main_v7 : FVec F S16x64x64x256 .f32 := broadcastInDim S16x64x64x256 ![] bcast_S_S16x64x64x256 main_cst
  let main_v8 : IVec S16x64x64x256 1 := cmpf .olt main_v6 main_v7
  let main_c_2 : IVec S_ 1 := constantI S_ 1 1#1
  let main_v9 : IVec S_ 1 := (fun x v => Host.reduce IntOp.andi x v reducesTo_S16x64x64x256_S_d0_1_2_3 h_S_) main_v8 main_c_2
  let main_v10 : IVec S_ 1 := andi main_v5 main_v9
  let main_v11 : FVec F S8x256x256 .f32 := Host.absf main_arg2
  let main_cst_3 : FVec F S_ .f32 := constant S_ .f32 0x7F800000#32
  let main_v12 : FVec F S8x256x256 .f32 := broadcastInDim S8x256x256 ![] bcast_S_S8x256x256 main_cst_3
  let main_v13 : IVec S8x256x256 1 := cmpf .olt main_v11 main_v12
  let main_c_4 : IVec S_ 1 := constantI S_ 1 1#1
  let main_v14 : IVec S_ 1 := (fun x v => Host.reduce IntOp.andi x v reducesTo_S8x256x256_S_d0_1_2 h_S_) main_v13 main_c_4
  let main_v15 : IVec S_ 1 := andi main_v10 main_v14
  let main_v16 : FVec F S8x256 .f32 := Host.absf main_arg3
  fn_part1 (F := F) main_arg4 main_arg5 main_v15 main_v16
-- ==== Pre_regimes_in_range.lean ====
abbrev S16x64x64x256 : Shape := ⟨4, ![16, 64, 64, 256]⟩
abbrev S16 : Shape := ⟨1, ![16]⟩
abbrev S8x256x256 : Shape := ⟨3, ![8, 256, 256]⟩
abbrev S8x256 : Shape := ⟨2, ![8, 256]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x64x64x256 .f32) (main_arg1 : IVec S16 32) (main_arg2 : FVec F S8x256x256 .f32) (main_arg3 : FVec F S8x256 .f32) (main_arg4 : FVec F S8x256x256 .f32) (main_arg5 : FVec F S8x256 .f32) (main_arg6 : FVec F S8x256 .f32) (main_arg7 : FVec F S8x256 .f32) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 8#32
  let main_v2 : IVec S16 32 := broadcastInDim S16 ![] bcast_S_S16 main_c_0
  let main_v3 : IVec S16 1 := cmpi .slt main_arg1 main_v2
  let main_v4 : IVec S16 1 := andi main_v1 main_v3
  main_v4
-- ==== Kernel.lean ====
abbrev S16x64x64x256 : Shape := ⟨4, ![16, 64, 64, 256]⟩
abbrev S16 : Shape := ⟨1, ![16]⟩
abbrev S8x256x256 : Shape := ⟨3, ![8, 256, 256]⟩
abbrev S8x256 : Shape := ⟨2, ![8, 256]⟩
abbrev S16x4096x256 : Shape := ⟨3, ![16, 4096, 256]⟩
abbrev S_ : Shape := ⟨0, ![]⟩
abbrev S8x1x256 : Shape := ⟨3, ![8, 1, 256]⟩
abbrev S8x4x256 : Shape := ⟨3, ![8, 4, 256]⟩
abbrev S1x1024x256 : Shape := ⟨3, ![1, 1024, 256]⟩
abbrev S1x256x256 : Shape := ⟨3, ![1, 256, 256]⟩
abbrev S1 : Shape := ⟨1, ![1]⟩
abbrev S1x4x256 : Shape := ⟨3, ![1, 4, 256]⟩
abbrev S1024x256 : Shape := ⟨2, ![1024, 256]⟩
abbrev S256x256 : Shape := ⟨2, ![256, 256]⟩
abbrev S1x1x256 : Shape := ⟨3, ![1, 1, 256]⟩
abbrev S256 : Shape := ⟨1, ![256]⟩
abbrev S1x256 : Shape := ⟨2, ![1, 256]⟩
abbrev S1024 : Shape := ⟨1, ![1024]⟩
abbrev S1024x1 : Shape := ⟨2, ![1024, 1]⟩

abbrev nBuf : Space → Nat
  | .hbm => 23
  | .vmem => 10
  | .smem => 1
  | _ => 0

abbrev bufTy : (tb : Table) → Fin (tcTables nBuf tb) → BufTy
  | .hbm, ⟨0, _⟩ => ⟨S16x64x64x256, .f32⟩
  | .hbm, ⟨1, _⟩ => ⟨S8x256x256, .f32⟩
  | .hbm, ⟨2, _⟩ => ⟨S8x256, .f32⟩
  | .hbm, ⟨3, _⟩ => ⟨S8x256x256, .f32⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S16x4096x256, .f32⟩
  | .hbm, ⟨8, _⟩ => ⟨S8x256x256, .f32⟩
  | .hbm, ⟨9, _⟩ => ⟨S_, .f32⟩
  | .hbm, ⟨10, _⟩ => ⟨S8x256x256, .f32⟩
  | .hbm, ⟨11, _⟩ => ⟨S8x256x256, .f32⟩
  | .hbm, ⟨12, _⟩ => ⟨S8x256x256, .f32⟩
  | .hbm, ⟨13, _⟩ => ⟨S_, .f32⟩
  | .hbm, ⟨14, _⟩ => ⟨S8x256, .f32⟩
  | .hbm, ⟨15, _⟩ => ⟨S8x256, .f32⟩
  | .hbm, ⟨16, _⟩ => ⟨S8x1x256, .f32⟩
  | .hbm, ⟨17, _⟩ => ⟨S8x1x256, .f32⟩
  | .hbm, ⟨18, _⟩ => ⟨S8x1x256, .f32⟩
  | .hbm, ⟨19, _⟩ => ⟨S8x1x256, .f32⟩
  | .hbm, ⟨20, _⟩ => ⟨S8x4x256, .f32⟩
  | .hbm, ⟨21, _⟩ => ⟨S16x4096x256, .f32⟩
  | .hbm, ⟨22, _⟩ => ⟨S16x64x64x256, .f32⟩
  | .local _ .vmem, ⟨0, _⟩ => ⟨S1x1024x256, .f32⟩
  | .local _ .vmem, ⟨1, _⟩ => ⟨S1x1024x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x4x256, .f32⟩
  | .local _ .vmem, ⟨7, _⟩ => ⟨S1x4x256, .f32⟩
  | .local _ .vmem, ⟨8, _⟩ => ⟨S1x1024x256, .f32⟩
  | .local _ .vmem, ⟨9, _⟩ => ⟨S1x1024x256, .f32⟩
  | .local _ .smem, ⟨0, _⟩ => ⟨S16, .i32⟩
  | _, _ => ⟨S16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_v0 : Ref sig .tc := ⟨.hbm, 22, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "half_over_c" => some ((8388608 / 11863283 : ℝ) : EReal)
  | _ => none
-- ==== ReferenceIdeal.lean ====
abbrev S16x64x64x256 : Shape := ⟨4, ![16, 64, 64, 256]⟩
abbrev S16 : Shape := ⟨1, ![16]⟩
abbrev S8x256x256 : Shape := ⟨3, ![8, 256, 256]⟩
abbrev S8x256 : Shape := ⟨2, ![8, 256]⟩
abbrev S_ : Shape := ⟨0, ![]⟩
abbrev S16x1 : Shape := ⟨2, ![16, 1]⟩
abbrev S1 : Shape := ⟨1, ![1]⟩
abbrev S1x1 : Shape := ⟨2, ![1, 1]⟩
abbrev S16x256x256 : Shape := ⟨3, ![16, 256, 256]⟩
abbrev S16x256 : Shape := ⟨2, ![16, 256]⟩
abbrev S16x1x1x256 : Shape := ⟨4, ![16, 1, 1, 256]⟩
abbrev S16x64x64 : Shape := ⟨3, ![16, 64, 64]⟩
abbrev S16x64x64x1 : Shape := ⟨4, ![16, 64, 64, 1]⟩

abbrev nBuf : Space → Nat
  | .hbm => 207
  | .vmem => 0
  | .smem => 0
  | _ => 0

abbrev hbmTy0_0 (i : Nat) : BufTy := match i % 128 with
  | 0 => ⟨S16x64x64x256, .f32⟩
  | 1 => ⟨S16, .i32⟩
  | 2 => ⟨S8x256x256, .f32⟩
  | 3 => ⟨S8x256, .f32⟩
  | 4 => ⟨S8x256x256, .f32⟩
  | 5 => ⟨S8x256, .f32⟩
  | 6 => ⟨S8x256, .f32⟩
  | 7 => ⟨S8x256, .f32⟩
  | 8 => ⟨S_, .i32⟩
  | 9 => ⟨S16, .i32⟩
  | 10 => ⟨S16, .i1⟩
  | 11 => ⟨S_, .i32⟩
  | 12 => ⟨S16, .i32⟩
  | 13 => ⟨S16, .i32⟩
  | 14 => ⟨S16, .i32⟩
  | 15 => ⟨S16x1, .i32⟩
  | 16 => ⟨S1, .i32⟩
  | 17 => ⟨S_, .i32⟩
  | 18 => ⟨S16x1, .i32⟩
  | 19 => ⟨S16x1, .i1⟩
  | 20 => ⟨S1x1, .i32⟩
  | 21 => ⟨S16x1, .i32⟩
  | 22 => ⟨S16x1, .i1⟩
  | 23 => ⟨S16x1, .i1⟩
  | 24 => ⟨S_, .i1⟩
  | 25 => ⟨S16, .i1⟩
  | 26 => ⟨S16x256x256, .f32⟩
  | 27 => ⟨S16x256x256, .i1⟩
  | 28 => ⟨S_, .f32⟩
  | 29 => ⟨S16x256x256, .f32⟩
  | 30 => ⟨S16x256x256, .f32⟩
  | 31 => ⟨S_, .i32⟩
  | 32 => ⟨S16, .i32⟩
  | 33 => ⟨S16, .i1⟩
  | 34 => ⟨S_, .i32⟩
  | 35 => ⟨S16, .i32⟩
  | 36 => ⟨S16, .i32⟩
  | 37 => ⟨S16, .i32⟩
  | 38 => ⟨S16x1, .i32⟩
  | 39 => ⟨S1, .i32⟩
  | 40 => ⟨S_, .i32⟩
  | 41 => ⟨S16x1, .i32⟩
  | 42 => ⟨S16x1, .i1⟩
  | 43 => ⟨S1x1, .i32⟩
  | 44 => ⟨S16x1, .i32⟩
  | 45 => ⟨S16x1, .i1⟩
  | 46 => ⟨S16x1, .i1⟩
  | 47 => ⟨S_, .i1⟩
  | 48 => ⟨S16, .i1⟩
  | 49 => ⟨S16x256, .f32⟩
  | 50 => ⟨S16x256, .i1⟩
  | 51 => ⟨S_, .f32⟩
  | 52 => ⟨S16x256, .f32⟩
  | 53 => ⟨S16x256, .f32⟩
  | 54 => ⟨S_, .i32⟩
  | 55 => ⟨S16, .i32⟩
  | 56 => ⟨S16, .i1⟩
  | 57 => ⟨S_, .i32⟩
  | 58 => ⟨S16, .i32⟩
  | 59 => ⟨S16, .i32⟩
  | 60 => ⟨S16, .i32⟩
  | 61 => ⟨S16x1, .i32⟩
  | 62 => ⟨S1, .i32⟩
  | 63 => ⟨S_, .i32⟩
  | 64 => ⟨S16x1, .i32⟩
  | 65 => ⟨S16x1, .i1⟩
  | 66 => ⟨S1x1, .i32⟩
  | 67 => ⟨S16x1, .i32⟩
  | 68 => ⟨S16x1, .i1⟩
  | 69 => ⟨S16x1, .i1⟩
  | 70 => ⟨S_, .i1⟩
  | 71 => ⟨S16, .i1⟩
  | 72 => ⟨S16x256x256, .f32⟩
  | 73 => ⟨S16x256x256, .i1⟩
  | 74 => ⟨S_, .f32⟩
  | 75 => ⟨S16x256x256, .f32⟩
  | 76 => ⟨S16x256x256, .f32⟩
  | 77 => ⟨S_, .i32⟩
  | 78 => ⟨S16, .i32⟩
  | 79 => ⟨S16, .i1⟩
  | 80 => ⟨S_, .i32⟩
  | 81 => ⟨S16, .i32⟩
  | 82 => ⟨S16, .i32⟩
  | 83 => ⟨S16, .i32⟩
  | 84 => ⟨S16x1, .i32⟩
  | 85 => ⟨S1, .i32⟩
  | 86 => ⟨S_, .i32⟩
  | 87 => ⟨S16x1, .i32⟩
  | 88 => ⟨S16x1, .i1⟩
  | 89 => ⟨S1x1, .i32⟩
  | 90 => ⟨S16x1, .i32⟩
  | 91 => ⟨S16x1, .i1⟩
  | 92 => ⟨S16x1, .i1⟩
  | 93 => ⟨S_, .i1⟩
  | 94 => ⟨S16, .i1⟩
  | 95 => ⟨S16x256, .f32⟩
  | 96 => ⟨S16x256, .i1⟩
  | 97 => ⟨S_, .f32⟩
  | 98 => ⟨S16x256, .f32⟩
  | 99 => ⟨S16x256, .f32⟩
  | 100 => ⟨S_, .i32⟩
  | 101 => ⟨S16, .i32⟩
  | 102 => ⟨S16, .i1⟩
  | 103 => ⟨S_, .i32⟩
  | 104 => ⟨S16, .i32⟩
  | 105 => ⟨S16, .i32⟩
  | 106 => ⟨S16, .i32⟩
  | 107 => ⟨S16x1, .i32⟩
  | 108 => ⟨S1, .i32⟩
  | 109 => ⟨S_, .i32⟩
  | 110 => ⟨S16x1, .i32⟩
  | 111 => ⟨S16x1, .i1⟩
  | 112 => ⟨S1x1, .i32⟩
  | 113 => ⟨S16x1, .i32⟩
  | 114 => ⟨S16x1, .i1⟩
  | 115 => ⟨S16x1, .i1⟩
  | 116 => ⟨S_, .i1⟩
  | 117 => ⟨S16, .i1⟩
  | 118 => ⟨S16x256, .f32⟩
  | 119 => ⟨S16x256, .i1⟩
  | 120 => ⟨S_, .f32⟩
  | 121 => ⟨S16x256, .f32⟩
  | 122 => ⟨S16x256, .f32⟩
  | 123 => ⟨S_, .i32⟩
  | 124 => ⟨S16, .i32⟩
  | 125 => ⟨S16, .i1⟩
  | 126 => ⟨S_, .i32⟩
  | 127 => ⟨S16, .i32⟩
  | _ => ⟨S16x64x64x256, .f32⟩

abbrev hbmTy0_1 (i : Nat) : BufTy := match i % 128 with
  | 0 => ⟨S16, .i32⟩
  | 1 => ⟨S16, .i32⟩
  | 2 => ⟨S16x1, .i32⟩
  | 3 => ⟨S1, .i32⟩
  | 4 => ⟨S_, .i32⟩
  | 5 => ⟨S16x1, .i32⟩
  | 6 => ⟨S16x1, .i1⟩
  | 7 => ⟨S1x1, .i32⟩
  | 8 => ⟨S16x1, .i32⟩
  | 9 => ⟨S16x1, .i1⟩
  | 10 => ⟨S16x1, .i1⟩
  | 11 => ⟨S_, .i1⟩
  | 12 => ⟨S16, .i1⟩
  | 13 => ⟨S16x256, .f32⟩
  | 14 => ⟨S16x256, .i1⟩
  | 15 => ⟨S_, .f32⟩
  | 16 => ⟨S16x256, .f32⟩
  | 17 => ⟨S16x256, .f32⟩
  | 18 => ⟨S16x64x64x256, .f32⟩
  | 19 => ⟨S16x1x1x256, .f32⟩
  | 20 => ⟨S16x64x64x256, .f32⟩
  | 21 => ⟨S16x64x64x256, .f32⟩
  | 22 => ⟨S_, .f32⟩
  | 23 => ⟨S16x64x64x256, .f32⟩
  | 24 => ⟨S16x64x64x256, .f32⟩
  | 25 => ⟨S16x64x64x256, .f32⟩
  | 26 => ⟨S_, .f32⟩
  | 27 => ⟨S16x64x64x256, .f32⟩
  | 28 => ⟨S16x64x64x256, .f32⟩
  | 29 => ⟨S16x64x64x256, .f32⟩
  | 30 => ⟨S16x64x64x256, .f32⟩
  | 31 => ⟨S16x64x64x256, .f32⟩
  | 32 => ⟨S16x1x1x256, .f32⟩
  | 33 => ⟨S16x64x64x256, .f32⟩
  | 34 => ⟨S16x64x64x256, .f32⟩
  | 35 => ⟨S_, .f32⟩
  | 36 => ⟨S16x64x64, .f32⟩
  | 37 => ⟨S16x64x64x1, .f32⟩
  | 38 => ⟨S_, .f32⟩
  | 39 => ⟨S16x64x64x1, .f32⟩
  | 40 => ⟨S16x64x64x1, .f32⟩
  | 41 => ⟨S_, .i32⟩
  | 42 => ⟨S_, .f32⟩
  | 43 => ⟨S16x64x64, .f32⟩
  | 44 => ⟨S16x64x64x1, .f32⟩
  | 45 => ⟨S_, .f32⟩
  | 46 => ⟨S16x64x64x1, .f32⟩
  | 47 => ⟨S16x64x64x1, .f32⟩
  | 48 => ⟨S16x64x64x256, .f32⟩
  | 49 => ⟨S16x64x64x256, .f32⟩
  | 50 => ⟨S16x64x64x256, .f32⟩
  | 51 => ⟨S_, .f32⟩
  | 52 => ⟨S_, .f32⟩
  | 53 => ⟨S_, .f32⟩
  | 54 => ⟨S_, .f32⟩
  | 55 => ⟨S16x64x64, .f32⟩
  | 56 => ⟨S16x64x64x1, .f32⟩
  | 57 => ⟨S16x64x64x1, .f32⟩
  | 58 => ⟨S16x64x64x1, .f32⟩
  | 59 => ⟨S_, .f32⟩
  | 60 => ⟨S_, .i1⟩
  | 61 => ⟨S_, .f32⟩
  | 62 => ⟨S_, .f32⟩
  | 63 => ⟨S16x64x64x1, .f32⟩
  | 64 => ⟨S16x64x64x1, .f32⟩
  | 65 => ⟨S16x64x64x256, .f32⟩
  | 66 => ⟨S16x64x64x256, .f32⟩
  | 67 => ⟨S_, .f32⟩
  | 68 => ⟨S16x64x64x1, .f32⟩
  | 69 => ⟨S16x64x64x1, .f32⟩
  | 70 => ⟨S16x64x64x1, .f32⟩
  | 71 => ⟨S16x64x64x256, .f32⟩
  | 72 => ⟨S16x64x64x256, .f32⟩
  | 73 => ⟨S16x1x1x256, .f32⟩
  | 74 => ⟨S16x64x64x256, .f32⟩
  | 75 => ⟨S16x64x64x256, .f32⟩
  | 76 => ⟨S16x1x1x256, .f32⟩
  | 77 => ⟨S16x64x64x256, .f32⟩
  | 78 => ⟨S16x64x64x256, .f32⟩
  | _ => ⟨S16x64x64x256, .f32⟩

abbrev hbmTy (i : Nat) : BufTy := match i / 128 with
  | 0 => hbmTy0_0 i
  | 1 => hbmTy0_1 i
  | _ => ⟨S16x64x64x256, .f32⟩

abbrev bufTy : (tb : Table) → Fin (tcTables nBuf tb) → BufTy
  | .hbm, ⟨i, _⟩ => hbmTy i
  | _, _ => ⟨S16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v2 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v3 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_c_1 : Ref sig .tc := ⟨.hbm, 108, rfl⟩
abbrev main_call4_c_2 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_3 : Ref sig .tc := ⟨.hbm, 116, rfl⟩
abbrev main_call4_v12 : Ref sig .tc := ⟨.hbm, 117, rfl⟩
abbrev main_call4_v13 : Ref sig .tc := ⟨.hbm, 118, rfl⟩
abbrev main_call4_v14 : Ref sig .tc := ⟨.hbm, 119, rfl⟩
abbrev main_call4_cst : Ref sig .tc := ⟨.hbm, 120, rfl⟩
abbrev main_call4_v15 : Ref sig .tc := ⟨.hbm, 121, rfl⟩
abbrev main_v4 : Ref sig .tc := ⟨.hbm, 122, rfl⟩
abbrev main_call5_c : Ref sig .tc := ⟨.hbm, 123, rfl⟩
abbrev main_call5_v0 : Ref sig .tc := ⟨.hbm, 124, rfl⟩
abbrev main_call5_v1 : Ref sig .tc := ⟨.hbm, 125, rfl⟩
abbrev main_call5_c_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_c_1 : Ref sig .tc := ⟨.hbm, 131, rfl⟩
abbrev main_call5_c_2 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_c_3 : Ref sig .tc := ⟨.hbm, 139, rfl⟩
abbrev main_call5_v12 : Ref sig .tc := ⟨.hbm, 140, rfl⟩
abbrev main_call5_v13 : Ref sig .tc := ⟨.hbm, 141, rfl⟩
abbrev main_call5_v14 : Ref sig .tc := ⟨.hbm, 142, rfl⟩
abbrev main_call5_cst : Ref sig .tc := ⟨.hbm, 143, rfl⟩
abbrev main_call5_v15 : Ref sig .tc := ⟨.hbm, 144, rfl⟩
abbrev main_v5 : Ref sig .tc := ⟨.hbm, 145, rfl⟩
abbrev main_v6 : Ref sig .tc := ⟨.hbm, 146, rfl⟩
abbrev main_v7 : Ref sig .tc := ⟨.hbm, 147, rfl⟩
abbrev main_v8 : Ref sig .tc := ⟨.hbm, 148, rfl⟩
abbrev main_v9 : Ref sig .tc := ⟨.hbm, 149, rfl⟩
abbrev main_cst : Ref sig .tc := ⟨.hbm, 150, rfl⟩
abbrev main_v10 : Ref sig .tc := ⟨.hbm, 151, rfl⟩
abbrev main_v11 : Ref sig .tc := ⟨.hbm, 152, rfl⟩
abbrev main_v12 : Ref sig .tc := ⟨.hbm, 153, rfl⟩
abbrev main_cst_0 : Ref sig .tc := ⟨.hbm, 154, rfl⟩
abbrev main_v13 : Ref sig .tc := ⟨.hbm, 155, rfl⟩
abbrev main_v14 : Ref sig .tc := ⟨.hbm, 156, rfl⟩
abbrev main_v15 : Ref sig .tc := ⟨.hbm, 157, rfl⟩
abbrev main_v16 : Ref sig .tc := ⟨.hbm, 158, rfl⟩
abbrev main_v17 : Ref sig .tc := ⟨.hbm, 159, rfl⟩
abbrev main_v18 : Ref sig .tc := ⟨.hbm, 160, rfl⟩
abbrev main_v19 : Ref sig .tc := ⟨.hbm, 161, rfl⟩
abbrev main_v20 : Ref sig .tc := ⟨.hbm, 162, rfl⟩
abbrev main_cst_1 : Ref sig .tc := ⟨.hbm, 163, rfl⟩
abbrev main_v21 : Ref sig .tc := ⟨.hbm, 164, rfl⟩
abbrev main_v22 : Ref sig .tc := ⟨.hbm, 165, rfl⟩
abbrev main_cst_2 : Ref sig .tc := ⟨.hbm, 166, rfl⟩
abbrev main_v23 : Ref sig .tc := ⟨.hbm, 167, rfl⟩
abbrev main_v24 : Ref sig .tc := ⟨.hbm, 168, rfl⟩
abbrev main_c : Ref sig .tc := ⟨.hbm, 169, rfl⟩
abbrev main_call6_cst : Ref sig .tc := ⟨.hbm, 170, rfl⟩
abbrev main_call6_v0 : Ref sig .tc := ⟨.hbm, 171, rfl⟩
abbrev main_call6_v1 : Ref sig .tc := ⟨.hbm, 172, rfl⟩
abbrev main_call6_cst_0 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_call6_v5 : Ref sig .tc := ⟨.hbm, 177, rfl⟩
abbrev main_call6_v6 : Ref sig .tc := ⟨.hbm, 178, rfl⟩
abbrev main_call6_v7 : Ref sig .tc := ⟨.hbm, 179, rfl⟩
abbrev main_call6_cst_1 : Ref sig .tc := ⟨.hbm, 180, rfl⟩
abbrev main_call6_v8 : Ref sig .tc := ⟨.hbm, 181, rfl⟩
abbrev main_call6_cst_2 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_v12 : Ref sig .tc := ⟨.hbm, 186, rfl⟩
abbrev main_call6_cst_3 : Ref sig .tc := ⟨.hbm, 187, rfl⟩
abbrev main_call6_v13 : Ref sig .tc := ⟨.hbm, 188, rfl⟩
abbrev main_call6_cst_4 : Ref sig .tc := ⟨.hbm, 189, rfl⟩
abbrev main_call6_call0_v0 : Ref sig .tc := ⟨.hbm, 190, rfl⟩
abbrev main_call6_call0_v1 : Ref sig .tc := ⟨.hbm, 191, rfl⟩
abbrev main_v25 : Ref sig .tc := ⟨.hbm, 192, rfl⟩
abbrev main_v26 : Ref sig .tc := ⟨.hbm, 193, rfl⟩
abbrev main_v27 : Ref sig .tc := ⟨.hbm, 194, rfl⟩
abbrev main_cst_3 : Ref sig .tc := ⟨.hbm, 195, rfl⟩
abbrev main_v28 : Ref sig .tc := ⟨.hbm, 196, rfl⟩
abbrev main_v29 : Ref sig .tc := ⟨.hbm, 197, rfl⟩
abbrev main_v30 : Ref sig .tc := ⟨.hbm, 198, rfl⟩
abbrev main_v31 : Ref sig .tc := ⟨.hbm, 199, rfl⟩
abbrev main_v32 : Ref sig .tc := ⟨.hbm, 200, rfl⟩
abbrev main_v33 : Ref sig .tc := ⟨.hbm, 201, rfl⟩
abbrev main_v34 : Ref sig .tc := ⟨.hbm, 202, rfl⟩
abbrev main_v35 : Ref sig .tc := ⟨.hbm, 203, rfl⟩
abbrev main_v36 : Ref sig .tc := ⟨.hbm, 204, rfl⟩
abbrev main_v37 : Ref sig .tc := ⟨.hbm, 205, rfl⟩
abbrev main_v38 : Ref sig .tc := ⟨.hbm, 206, rfl⟩

abbrev nD : Nat := 1
abbrev τ : Topo := Topo.v7x

variable {F : FTy → Type} [FloatOps F]
-- ==== Proof.Pre.lean ====
/- What the two preconditions say, element by element, and that each gives the pipeline's side condition on the table of regimes:
   every window that the table places lies inside its array. -/
module

public import proofs.«01_k».proof.Defs
public import proofs.«01_k».proof.Proof.Gen.Kernel.Frame
public import proofs.«01_k».proof.Proof.Gen.KernelIdeal.Frame
public import proofs.«01_k».proof.Proof.Gen.Pre_regimes_in_range
public import proofs.«01_k».proof.Proof.Gen.Pre_finite_in_range
public import Idealize.ShloMosaic.Lib.StableHlo.Predicate
public import Idealize.ShloMosaic.Lib.ReduceAll
public import Idealize.ShloMosaic.Lib.ValueIdxCoords

@[expose] public section

noncomputable section

namespace Cert.Proof

open Idealize.ShloMosaic Idealize.ShloMosaic.TcCoe Idealize.ShloMosaic.ValueIdx

/-- A conjunction of two bits is set when both are. -/
theorem andi_one (a b : BitVec 1) : IntOp.andi a b = 1#1 ↔ a = 1#1 ∧ b = 1#1 := by
  revert a b; decide

/-- A 32-bit word that is at least 0 and below 8, read signed, is below 8 read as a natural. -/
theorem word_lt (w : BitVec 32) (h0 : IntOp.cmpi .sge w 0#32 = 1#1) (h8 : IntOp.cmpi .slt w 8#32 = 1#1) : w.toNat < 8 := by
  simp only [IntOp.cmpi, StableHlo.Predicate.ofBool_eq_one_iff, BitVec.sle, BitVec.slt, decide_eq_true_eq, BitVec.toInt,
    BitVec.toNat_ofNat] at h0 h8
  omega

/-- The precondition `regimes_in_range` bounds every regime. -/
theorem regimes_lt {F : FTy → Type} [FloatOps F] {x0 : FVec F Pre_regimes_in_range.S16x64x64x256 .f32}
    {x1 : IVec Pre_regimes_in_range.S16 32} {x2 : FVec F Pre_regimes_in_range.S8x256x256 .f32} {x3 : FVec F Pre_regimes_in_range.S8x256 .f32}
    {x4 : FVec F Pre_regimes_in_range.S8x256x256 .f32} {x5 x6 x7 : FVec F Pre_regimes_in_range.S8x256 .f32}
    (h : Pre_regimes_in_range.fn x0 x1 x2 x3 x4 x5 x6 x7 = fun _ => 1#1) (i : Pre_regimes_in_range.S16.Idx) : (x1 i).toNat < 8 := by
  have e := congrFun h i
  simp only [Pre_regimes_in_range.fn, cmpi, andi, andi_one, constantI, broadcastInDim] at e
  exact word_lt _ e.1 e.2

/-- A float whose absolute value is below the infinity is, at the extended reals, a real number. -/
theorem real_of_abs_lt (x : Ideal .f32)
    (h : FloatOps.cmpf .olt (FloatOps.hostAbsf x) (FloatOps.ofBits (F := Ideal) .f32 0x7F800000#32) = 1#1) :
    ∃ r : ℝ, x = ((r : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | coe r => exact ⟨r, rfl⟩
  | top => simp [Ideal.cmp] at h

/-- A rank-0 array has one index. -/
instance : Subsingleton Pre_finite_in_range.S_.Idx := ⟨fun _ _ => funext fun a => a.elim0⟩

/-- What the precondition `finite_in_range` says of the arguments: every regime is one of the 8, and the features, both weights and
    both biases hold real numbers. -/
theorem finite_in_range {x0 : FVec Ideal Pre_finite_in_range.S16x64x64x256 .f32}
    {x1 : IVec Pre_finite_in_range.S16 32} {x2 : FVec Ideal Pre_finite_in_range.S8x256x256 .f32} {x3 : FVec Ideal Pre_finite_in_range.S8x256 .f32}
    {x4 : FVec Ideal Pre_finite_in_range.S8x256x256 .f32} {x5 x6 x7 : FVec Ideal Pre_finite_in_range.S8x256 .f32}
    (h : Pre_finite_in_range.fn x0 x1 x2 x3 x4 x5 x6 x7 = fun _ => 1#1) :
    (∀ i, (x1 i).toNat < 8) ∧ (∀ i, ∃ r : ℝ, x0 i = ((r : ℝ) : EReal)) ∧ (∀ i, ∃ r : ℝ, x2 i = ((r : ℝ) : EReal))
      ∧ (∀ i, ∃ r : ℝ, x3 i = ((r : ℝ) : EReal)) ∧ (∀ i, ∃ r : ℝ, x4 i = ((r : ℝ) : EReal)) ∧ (∀ i, ∃ r : ℝ, x5 i = ((r : ℝ) : EReal)) := by
  have e := congrFun h (fun a => a.elim0)
  simp only [Pre_finite_in_range.fn, Pre_finite_in_range.fn_part1, andi, andi_one] at e
  obtain ⟨⟨⟨⟨⟨e1, e0⟩, e2⟩, e3⟩, e4⟩, e5⟩ := e
  refine ⟨fun i => ?_, fun i => ?_, fun i => ?_, fun i => ?_, fun i => ?_, fun i => ?_⟩
  · have k := Host.reduce_andi_all _ _ _ _ _ e1 i
    exact word_lt _ ((andi_one _ _).1 k).1 ((andi_one _ _).1 k).2
  · exact real_of_abs_lt _ (Host.reduce_andi_all _ _ _ _ _ e0 i)
  · exact real_of_abs_lt _ (Host.reduce_andi_all _ _ _ _ _ e2 i)
  · exact real_of_abs_lt _ (Host.reduce_andi_all _ _ _ _ _ e3 i)
  · exact real_of_abs_lt _ (Host.reduce_andi_all _ _ _ _ _ e4 i)
  · exact real_of_abs_lt _ (Host.reduce_andi_all _ _ _ _ _ e5 i)

section
open Cert.Kernel Cert.Kernel.Gen

/-- The table's word that the index maps read at grid point `i`: the regime of example `i 0`. -/
theorem table_word {F : FTy → Type} [FloatOps F] (pf : pre0.Contents (Elt F)) (i : grid0.Coords) :
    pf.at 0 (Rect.unit (s := S16) (k0_off1 i) S1.size (Facts₀.k0_off1_inb i)) Facts₀.numel1_S1 = pf 0 (ix1 (i 0)) := by
  refine congrArg (pf 0) (funext fun (a : Fin 1) => Fin.ext ?_)
  obtain rfl : a = 0 := Subsingleton.elim _ _
  have hi : (i 0).val < 16 := (i 0).isLt
  change (BitVec.ofNat 32 (i 0).val).toNat + 0 * 1 = (i 0).val
  rw [BitVec.toNat_ofNat]
  omega

/-- With every regime in range, every window that the table places lies inside its array. -/
theorem ok_of_lt {F : FTy → Type} [FloatOps F] (pf : pre0.Contents (Elt F)) (h : ∀ i, (pf 0 i).toNat < 8) : ok0 pf := by
  refine ⟨fun i => ⟨fun a => ?_, Or.inl rfl⟩, fun i => ⟨fun a => ?_, Or.inl rfl⟩, fun i => ⟨fun a => ?_, Or.inl rfl⟩⟩ <;>
  · have hw := h (ix1 (i 0))
    have e := congrArg BitVec.toNat (table_word pf i)
    fin_cases a
    · change (_ + 1) * 1 ≤ 8
      exact (Nat.mul_one _).le.trans (e.trans_lt hw)
    · exact Nat.le_of_eq rfl
    · exact Nat.le_of_eq rfl

/-- The precondition on the regimes gives the side condition of the original program's pipeline. -/
theorem ok_Kernel (m : (ℓ : Loc nD τ sig) → Buf (Elt Bits) ℓ) (h : Cert.Pre_Kernel m) : Ok (F := Bits) m :=
  ok_of_lt _ fun i => (congrArg BitVec.toNat (congrFun (V_main_arg1 m 0) i)).trans_lt (regimes_lt (h 0) i)

end

section
open Cert.KernelIdeal Cert.KernelIdeal.Gen

/-- The table's word that the idealized program's index maps read at grid point `i`: the regime of example `i 0`. -/
theorem table_word_ideal {F : FTy → Type} [FloatOps F] [Named F] (pf : pre0.Contents (Elt F)) (i : grid0.Coords) :
    pf.at 0 (Rect.unit (s := S16) (k0_off1 i) S1.size (Facts₀.k0_off1_inb i)) Facts₀.numel1_S1 = pf 0 (ix1 (i 0)) := by
  refine congrArg (pf 0) (funext fun (a : Fin 1) => Fin.ext ?_)
  obtain rfl : a = 0 := Subsingleton.elim _ _
  have hi : (i 0).val < 16 := (i 0).isLt
  change (BitVec.ofNat 32 (i 0).val).toNat + 0 * 1 = (i 0).val
  rw [BitVec.toNat_ofNat]
  omega

/-- With every regime in range, every window that the table places lies inside its array, in the idealized program too. -/
theorem ok_of_lt_ideal {F : FTy → Type} [FloatOps F] [Named F] (pf : pre0.Contents (Elt F)) (h : ∀ i, (pf 0 i).toNat < 8) : ok0 pf := by
  refine ⟨fun i => ⟨fun a => ?_, Or.inl rfl⟩, fun i => ⟨fun a => ?_, Or.inl rfl⟩, fun i => ⟨fun a => ?_, Or.inl rfl⟩⟩ <;>
  · have hw := h (ix1 (i 0))
    have e := congrArg BitVec.toNat (table_word_ideal pf i)
    fin_cases a
    · change (_ + 1) * 1 ≤ 8
      exact (Nat.mul_one _).le.trans (e.trans_lt hw)
    · exact Nat.le_of_eq rfl
    · exact Nat.le_of_eq rfl

/-- The table the region reads is the array of regimes as launched. -/
theorem tbl_eq {F : FTy → Type} [FloatOps F] [Named F] (m : (ℓ : Loc nD τ sig) → Buf (Elt F) ℓ) :
    tbl m 0 = m (((0 : Dev nD) : Thread nD τ).loc main_arg1) := V_main_arg1 m 0

/-- The precondition on the regimes gives the side condition of the idealized program's pipeline. -/
theorem ok_KernelIdeal (m : (ℓ : Loc nD τ sig) → Buf (Elt Ideal) ℓ) (h : Cert.Pre_KernelIdeal m) : Ok (F := Ideal) m :=
  ok_of_lt_ideal _ fun i => (congrArg BitVec.toNat (congrFun (tbl_eq m) i)).trans_lt (regimes_lt (h 0) i)

/-- So does the precondition of the value claim. -/
theorem ok_finite (m : (ℓ : Loc nD τ sig) → Buf (Elt Ideal) ℓ) (h : Cert.Pre_KernelIdeal_finite_in_range m) : Ok (F := Ideal) m :=
  ok_of_lt_ideal _ fun i => (congrArg BitVec.toNat (congrFun (tbl_eq m) i)).trans_lt ((finite_in_range (h 0)).1 i)

end

end Cert.Proof

end
-- ==== Proof.Rows.lean ====
/- One row of the problem, at the extended reals: the fused kernel's arrangement of linear, GELU, linear and layer norm, and the plain
   one, are equal when the row, the weights and the biases hold real numbers. -/
module

public import Idealize.ShloMosaic.PureOps.Ideal
public import Idealize.ShloMosaic.PureOps.Ideal.Laws

@[expose] public section

noncomputable section

namespace Cert.Proof.Rows

open Idealize.ShloMosaic

/-- The 32-bit float nearest to the reciprocal of the square root of 2, as a real. -/
def cR : ℝ := 11863283 / 16777216
/-- One half divided by that float. -/
def kR : ℝ := 8388608 / 11863283
/-- The 32-bit float nearest to 0.00001, as a real. -/
def epsR : ℝ := 10995116 / 1099511627776

/-- The normalization's epsilon is positive. -/
theorem eps_pos : 0 < epsR := by unfold epsR; norm_num

/-- A row through a linear layer: `w o` is the row of weights of output `o`. -/
def linear (x : Fin 256 → EReal) (w : Fin 256 → Fin 256 → EReal) (b : Fin 256 → EReal) (o : Fin 256) : EReal :=
  (∑ d : Fin 256, x d * w o d) + b o

/-- The kernel's GELU, of an argument already divided by the square root of 2. -/
def geluScaled (t : EReal) : EReal := ((kR : ℝ) : EReal) * t * (1 + Ideal.erf t)

/-- The exact GELU through the complementary error function. -/
def gelu (t : EReal) : EReal := ((1 / 2 : ℝ) : EReal) * t * Ideal.erfc (-t * ((cR : ℝ) : EReal))

/-- The mean of a row. -/
def mean (h : Fin 256 → EReal) : EReal := Ideal.div (∑ o : Fin 256, h o) ((256 : ℝ) : EReal)

/-- The kernel's layer norm: the variance as the mean of squares less the square of the mean, and a reciprocal square root. -/
def normMoments (h : Fin 256 → EReal) (g b : EReal) (o : Fin 256) : EReal :=
  (h o - mean h) * Ideal.rsqrt (mean (fun p => h p * h p) - mean h * mean h + ((epsR : ℝ) : EReal)) * g + b

/-- The plain layer norm: the variance as the mean squared deviation, and a division by a square root. -/
def normDeviation (h : Fin 256 → EReal) (g b : EReal) (o : Fin 256) : EReal :=
  Ideal.div (h o - mean h) (Ideal.sqrt (mean (fun p => (h p - mean h) * (h p - mean h)) + ((epsR : ℝ) : EReal))) * g + b

/-- The kernel's row: the first layer's weights and bias scaled by `cR`, the scaled GELU, the second layer, the norm by moments. -/
def fusedRow (x : Fin 256 → EReal) (w1 : Fin 256 → Fin 256 → EReal) (b1 : Fin 256 → EReal) (w2 : Fin 256 → Fin 256 → EReal)
    (b2 : Fin 256 → EReal) (g b : EReal) (o : Fin 256) : EReal :=
  normMoments (linear (fun d => geluScaled (linear x (fun o d => w1 o d * ((cR : ℝ) : EReal)) (fun o => b1 o * ((cR : ℝ) : EReal)) d)) w2 b2) g b o

/-- The plain row: linear, GELU, linear, layer norm. -/
def plainRow (x : Fin 256 → EReal) (w1 : Fin 256 → Fin 256 → EReal) (b1 : Fin 256 → EReal) (w2 : Fin 256 → Fin 256 → EReal)
    (b2 : Fin 256 → EReal) (g b : EReal) (o : Fin 256) : EReal :=
  normDeviation (linear (fun d => gelu (linear x w1 b1 d)) w2 b2) g b o

/-- A finite sum of reals, read as extended reals. -/
theorem coe_sum {n : Nat} (f : Fin n → ℝ) : ((∑ i, f i : ℝ) : EReal) = ∑ i, ((f i : ℝ) : EReal) := by
  induction n with
  | zero => simp
  | succ n ih => rw [Fin.sum_univ_succ, Fin.sum_univ_succ, EReal.coe_add, ih]

/-- A linear layer of reals is real. -/
theorem linear_coe (x : Fin 256 → ℝ) (w : Fin 256 → Fin 256 → ℝ) (b : Fin 256 → ℝ) (o : Fin 256) :
    linear (fun d => ((x d : ℝ) : EReal)) (fun o d => ((w o d : ℝ) : EReal)) (fun o => ((b o : ℝ) : EReal)) o
      = (((∑ d, x d * w o d) + b o : ℝ) : EReal) := by
  unfold linear
  rw [EReal.coe_add, coe_sum]
  simp only [EReal.coe_mul]

/-- Scaling the weights and the bias scales a linear layer's output. -/
theorem linear_scaled (x : Fin 256 → ℝ) (w : Fin 256 → Fin 256 → ℝ) (b : Fin 256 → ℝ) (c : ℝ) (o : Fin 256) :
    linear (fun d => ((x d : ℝ) : EReal)) (fun o d => ((w o d : ℝ) : EReal) * ((c : ℝ) : EReal)) (fun o => ((b o : ℝ) : EReal) * ((c : ℝ) : EReal)) o
      = ((((∑ d, x d * w o d) + b o) * c : ℝ) : EReal) := by
  simp only [← EReal.coe_mul]
  rw [linear_coe, add_mul, Finset.sum_mul]
  simp only [mul_assoc]

/-- The error function of a real is real. -/
theorem erf_real (t : ℝ) : ∃ r : ℝ, Ideal.erf ((t : ℝ) : EReal) = ((r : ℝ) : EReal) := ⟨_, Ideal.erf_coe t⟩

/-- The scaled GELU at the scaled argument is the GELU, and it is real. -/
theorem gelu_scaled (t : ℝ) : ∃ r : ℝ, geluScaled ((t * cR : ℝ) : EReal) = ((r : ℝ) : EReal) ∧ gelu ((t : ℝ) : EReal) = ((r : ℝ) : EReal) := by
  obtain ⟨e, he⟩ := erf_real (t * cR)
  refine ⟨1 / 2 * t * (1 + e), ?_, ?_⟩
  · unfold geluScaled
    rw [he, ← EReal.coe_one, ← EReal.coe_add, ← EReal.coe_mul, ← EReal.coe_mul]
    congr 2
    unfold kR cR
    ring
  · unfold gelu
    rw [EReal.neg_mul, ← EReal.coe_mul t, Ideal.erfc_neg, he, ← EReal.coe_one, ← EReal.coe_add, ← EReal.coe_mul, ← EReal.coe_mul]

/-- The mean of reals is real. -/
theorem mean_coe (h : Fin 256 → ℝ) : mean (fun o => ((h o : ℝ) : EReal)) = (((∑ o, h o) / 256 : ℝ) : EReal) := by
  unfold mean
  rw [Ideal.div_coe (by norm_num), ← coe_sum, ← EReal.coe_mul, mul_one_div]

/-- The mean of squares less the square of the mean is the mean squared deviation. -/
theorem variance_eq (h : Fin 256 → ℝ) :
    (∑ o, h o * h o) / 256 - (∑ o, h o) / 256 * ((∑ o, h o) / 256)
      = (∑ o, (h o - (∑ p, h p) / 256) * (h o - (∑ p, h p) / 256)) / 256 := by
  have e : ∀ m : ℝ, ∑ o, (h o - m) * (h o - m) = (∑ o, h o * h o) - 2 * m * (∑ o, h o) + 256 * (m * m) := by
    intro m
    have : ∀ o, (h o - m) * (h o - m) = h o * h o - 2 * m * h o + m * m := fun o => by ring
    simp only [this, Finset.sum_add_distrib, Finset.sum_sub_distrib, ← Finset.mul_sum, Finset.sum_const, Finset.card_univ, Fintype.card_fin,
      nsmul_eq_mul]
    push_cast
    ring
  rw [e]
  ring

/-- On a real row the two layer norms agree, whatever the scale and the shift. -/
theorem norm_eq (h : Fin 256 → ℝ) (g b : EReal) (o : Fin 256) :
    normMoments (fun o => ((h o : ℝ) : EReal)) g b o = normDeviation (fun o => ((h o : ℝ) : EReal)) g b o := by
  unfold normMoments normDeviation
  simp only [mean_coe, ← EReal.coe_mul, ← EReal.coe_sub, ← EReal.coe_add]
  rw [variance_eq h]
  have hv : 0 < (∑ o, (h o - (∑ p, h p) / 256) * (h o - (∑ p, h p) / 256)) / 256 + epsR :=
    add_pos_of_nonneg_of_pos (div_nonneg (Finset.sum_nonneg fun _ _ => mul_self_nonneg _) (by norm_num)) eps_pos
  rw [Ideal.rsqrt_coe, Ideal.sqrt_coe, if_neg hv.not_gt, if_neg hv.ne', if_neg hv.not_gt, Ideal.div_coe (Real.sqrt_pos.2 hv).ne', one_div]

/-- THE ROW: on real data the fused row is the plain row, whatever the scale and the shift of the norm. -/
theorem fusedRow_eq {x : Fin 256 → EReal} {w1 : Fin 256 → Fin 256 → EReal} {b1 : Fin 256 → EReal} {w2 : Fin 256 → Fin 256 → EReal}
    {b2 : Fin 256 → EReal} (hx : ∀ d, ∃ r : ℝ, x d = ((r : ℝ) : EReal)) (hw1 : ∀ o d, ∃ r : ℝ, w1 o d = ((r : ℝ) : EReal))
    (hb1 : ∀ o, ∃ r : ℝ, b1 o = ((r : ℝ) : EReal)) (hw2 : ∀ o d, ∃ r : ℝ, w2 o d = ((r : ℝ) : EReal))
    (hb2 : ∀ o, ∃ r : ℝ, b2 o = ((r : ℝ) : EReal)) (g b : EReal) (o : Fin 256) :
    fusedRow x w1 b1 w2 b2 g b o = plainRow x w1 b1 w2 b2 g b o := by
  choose x' hx using hx
  choose w1' hw1 using hw1
  choose b1' hb1 using hb1
  choose w2' hw2 using hw2
  choose b2' hb2 using hb2
  obtain rfl : x = _ := funext hx
  obtain rfl : w1 = _ := funext fun o => funext (hw1 o)
  obtain rfl : b1 = _ := funext hb1
  obtain rfl : w2 = _ := funext fun o => funext (hw2 o)
  obtain rfl : b2 = _ := funext hb2
  choose r hs hp using fun d => gelu_scaled ((∑ e, x' e * w1' d e) + b1' d)
  unfold fusedRow plainRow
  simp only [linear_scaled, linear_coe, hs, hp]
  exact norm_eq _ g b o

end Cert.Proof.Rows

end
-- ==== Proof.Consts.lean ====
/- The literals of the kernel and of the reference, read as extended reals. -/
module

public import proofs.«01_k».proof.Proof.Rows
public import proofs.«01_k».proof.Defs

@[expose] public section

noncomputable section

namespace Cert.Proof.Consts

open Idealize.ShloMosaic Cert.Proof.Rows

/-- The sums start at zero. -/
theorem zero_word : Ideal.ofBits .f32 0x00000000#32 = 0 := by simp [Ideal.ofBits, Ideal.ieee, -EReal.coe_mul]

/-- The word of 1. -/
theorem one_word : Ideal.ofBits .f32 0x3F800000#32 = 1 := by
  rw [show (1 : EReal) = ((1 : ℝ) : EReal) from rfl]
  simp [Ideal.ofBits, Ideal.ieee, -EReal.coe_mul]; norm_num

/-- The word of one half. -/
theorem half_word : Ideal.ofBits .f32 0x3F000000#32 = ((1 / 2 : ℝ) : EReal) := by
  simp [Ideal.ofBits, Ideal.ieee, -EReal.coe_mul]; norm_num

/-- The word of the float nearest to the root of one half, an exact rational. -/
theorem c_word : Ideal.ofBits .f32 0x3F3504F3#32 = ((cR : ℝ) : EReal) := by
  simp [Ideal.ofBits, Ideal.ieee, -EReal.coe_mul]; unfold cR; norm_num

/-- The word of 256, the number of channels. -/
theorem width_word : Ideal.ofBits .f32 0x43800000#32 = ((256 : ℝ) : EReal) := by
  simp [Ideal.ofBits, Ideal.ieee, -EReal.coe_mul]; norm_num

/-- The word of the float nearest to 1e-5. -/
theorem eps_word : Ideal.ofBits .f32 0x3727C5AC#32 = ((epsR : ℝ) : EReal) := by
  simp [Ideal.ofBits, Ideal.ieee, -EReal.coe_mul]; unfold epsR; norm_num

/-- The named constant is one half over the float nearest to the root of one half. -/
theorem k_named : Named.named (F := Ideal) (φ := .f32) Cert.KernelIdeal.κ "half_over_c" 0x3F3504F3#32 = ((kR : ℝ) : EReal) :=
  IdealRules.named_const.ideal_named_scalar _ _ _ _ rfl

end Cert.Proof.Consts

end
-- ==== Proof.Block.lean ====
/- What one block computes: the kernel's value at row `p` and channel `o` of a block is the fused row's layers over the block's row of
   features, its weights and its four vectors. -/
module

public import proofs.«01_k».proof.Proof.Gen.KernelIdeal.Skeleton
public import proofs.«01_k».proof.Proof.Consts
public import Idealize.ShloMosaic.Lib.MatmulPlain
public import Idealize.ShloMosaic.Lib.ValueLayout
public import Idealize.ShloMosaic.Lib.ValueLayoutCasts
public import Idealize.ShloMosaic.PureOps.Ideal.Laws

@[expose] public section

noncomputable section

namespace Cert.Proof

open Idealize.ShloMosaic Idealize.ShloMosaic.ValueIdx
open Cert.KernelIdeal Cert.KernelIdeal.Gen Cert.Proof.Rows Cert.Proof.Consts

/-- A vector cast to one row and broadcast over the rows reads the vector at the column. -/
theorem row_broadcast (v : FVec Ideal S256 .f32) (p : Fin 1024) (o : Fin 256) :
    broadcastTo S1024x256 (shapeCast S1x256 v shapeCasts_S256_S1x256) broadcasts_S1x256_S1024x256 (ix2 p o) = v (ix1 o) := by
  rw [broadcastTo_1b_ab_apply, shapeCast_a_1a_apply]

/-- A column broadcast over the channels reads the column at the row. -/
theorem column_broadcast (v : FVec Ideal S1024x1 .f32) (p : Fin 1024) (o : Fin 256) :
    broadcastTo S1024x256 v broadcasts_S1024x1_S1024x256 (ix2 p o) = v (ix2 p (0 : Fin 1)) :=
  broadcastTo_apply v broadcasts_S1024x1_S1024x256 (ix2 p o) (ix2 p (0 : Fin 1)) fun a => match a with
    | ⟨0, _⟩ => by show p.val = if (1024 : Nat) = 1 then 0 else p.val; rw [if_neg (by decide)]
    | ⟨1, _⟩ => rfl

/-- The sum of a row, as a column. -/
theorem row_sum (v : FVec Ideal S1024x256 .f32) (z : BitVec 32) (hφ : FKind.Formats .f32) (hacc : z = FKind.add.neutral .f32 hφ)
    (p : Fin 1024) :
    (shapeCast S1024x1 (multiReduction .add [1] S1024 v z reduces_S1024x256_S1024 hφ hacc : FVec Ideal S1024 .f32)
        shapeCasts_S1024_S1024x1 : FVec Ideal S1024x1 .f32) (ix2 p (0 : Fin 1))
      = ∑ o : Fin 256, v (ix2 p o) := by
  rw [shapeCast_a_a1_apply, Ideal.multiReduction_add_single]
  exact Finset.sum_congr rfl fun k _ => congrArg v (funext fun a => Fin.ext (match a with | ⟨0, _⟩ => rfl | ⟨1, _⟩ => rfl))

/-- A `1×1×256` block cast to a vector. -/
theorem flat_vector (v : Vec Ideal S1x1x256 .f32) (o : Fin 256) :
    (shapeCast S256 v shapeCasts_S1x1x256_S256 : FVec Ideal S256 .f32) (ix1 o) = v (ix3 (0 : Fin 1) (0 : Fin 1) o) :=
  shapeCast_apply v _ _ _ (by
    rw [Shape.rowMajor_val_three, Shape.rowMajor_val_one]
    show (0 * 1 + 0) * 256 + o.val = o.val
    omega)

/-- A product of a `1024×256` and a `256×256` matrix into zero. -/
theorem product (a : FVec Ideal S1024x256 .f32) (w : FVec Ideal S256x256 .f32) (p : Fin 1024) (o : Fin 256) :
    matmul dot_S1024x256_S256x256_S1024x256_1_0_0_1_n_n none a w (constant S1024x256 .f32 0x00000000#32) (ix2 p o)
      = ∑ d : Fin 256, a (ix2 p d) * w (ix2 d o) := by
  refine (Ideal.matmul_plain_apply none a w (constant (F := Ideal) S1024x256 .f32 0x00000000#32) p o).trans ?_
  rw [show constant (F := Ideal) S1024x256 .f32 0x00000000#32 (ix2 p o) = 0 from zero_word, zero_add]

/-- The second layer's output over a block. -/
theorem block_second (v0 : Vec Ideal S1x1024x256 .f32) (v2 v4 : Vec Ideal S1x256x256 .f32) (v6 v8 : Vec Ideal S1x1x256 .f32)
    (p : Fin 1024) (o : Fin 256) :
    k0_pay4 v0 v2 v4 v6 v8 (ix2 p o)
      = linear (fun d => geluScaled (linear (fun e => v0 (ix3 (0 : Fin 1) p e)) (fun o e => v2 (ix3 (0 : Fin 1) e o))
            (fun o => v6 (ix3 (0 : Fin 1) (0 : Fin 1) o)) d))
          (fun o d => v4 (ix3 (0 : Fin 1) d o)) (fun o => v8 (ix3 (0 : Fin 1) (0 : Fin 1) o)) o := by
  unfold k0_pay4
  simp only [addf, mulf, erf, broadcast, Scalar.ofBits, Ideal.addf_def, Ideal.mulf_def, Ideal.erf_def, Ideal.ofBits_def, product, row_broadcast,
    flat_vector, shapeCast_1ab_ab_apply, k_named, one_word]
  rfl

/-- THE BLOCK: row `p`, channel `o` of what the kernel stores. -/
theorem block_at (v0 : Vec Ideal S1x1024x256 .f32) (v2 v4 : Vec Ideal S1x256x256 .f32) (v6 v8 v10 v12 : Vec Ideal S1x1x256 .f32)
    (u : Fin 1) (p : Fin 1024) (o : Fin 256) :
    k0_pay1 (k0_pay2 v10) (k0_pay3 v12) (k0_pay4 v0 v2 v4 v6 v8) (k0_pay5 v0 v2 v4 v6 v8) (k0_pay6 (F := Ideal)) (ix3 u p o)
      = normMoments (linear (fun d => geluScaled (linear (fun e => v0 (ix3 (0 : Fin 1) p e)) (fun o e => v2 (ix3 (0 : Fin 1) e o))
            (fun o => v6 (ix3 (0 : Fin 1) (0 : Fin 1) o)) d))
          (fun o d => v4 (ix3 (0 : Fin 1) d o)) (fun o => v8 (ix3 (0 : Fin 1) (0 : Fin 1) o)))
          (v10 (ix3 (0 : Fin 1) (0 : Fin 1) o)) (v12 (ix3 (0 : Fin 1) (0 : Fin 1) o)) o := by
  unfold k0_pay1 k0_pay2 k0_pay3 k0_pay5 k0_pay6
  simp only [shapeCast_ab_1ab_apply, addf, mulf, subf, divf, rsqrt, broadcast, Scalar.ofBits, Ideal.addf_def, Ideal.mulf_def, Ideal.subf_def,
    Ideal.divf_def, Ideal.rsqrt_def, Ideal.ofBits_def, row_broadcast, column_broadcast, flat_vector, width_word, eps_word, block_second]
  erw [row_sum (k0_pay4 v0 v2 v4 v6 v8) _ _ _ p, row_sum (mulf (k0_pay4 v0 v2 v4 v6 v8) (k0_pay4 v0 v2 v4 v6 v8)) _ _ _ p]
  simp only [mulf, Ideal.mulf_def, block_second]
  rfl

end Cert.Proof

end
-- ==== Proof.Stored.lean ====
/- What one grid point stores: the kernel's payload of the blocks in its input buffers, the four vectors read as the four rows of the last
   one. -/
module

public import proofs.«01_k».proof.Proof.Gen.KernelIdeal.Frame
public import proofs.«01_k».proof.Proof.Block
public import Idealize.ShloMosaic.Lib.Pipeline.Value

@[expose] public section

noncomputable section

namespace Cert.Proof

open Idealize.ShloMosaic Idealize.ShloMosaic.TcCoe Idealize.ShloMosaic.ValueIdx
open Cert.KernelIdeal Cert.KernelIdeal.Gen Cert.Proof.Rows

/-- The zero offsets of a whole block. -/
theorem no_offset : (![0, 0, 0] : Fin 3 → Nat) = fun _ => 0 := funext fun a => by fin_cases a <;> rfl

/-- The load of one row of a `1×4×256` block reads the block at that row. -/
theorem row_load (x : Vec Ideal S1x4x256 .f32) (k : Fin 4) (inb : ∀ a, (![0, k.val, 0] : Fin 3 → Nat) a + S1x1x256.size a ≤ S1x4x256.size a)
    (o : Fin 256) :
    View.ld x (Rect.unit (s := S1x4x256) ![0, k.val, 0] S1x1x256.size inb) (ix3 (0 : Fin 1) (0 : Fin 1) o) = x (ix3 (0 : Fin 1) k o) :=
  congrArg x (funext fun a => Fin.ext (match a with
    | ⟨0, _⟩ => rfl
    | ⟨1, _⟩ => rfl
    | ⟨2, _⟩ => by show 0 + 1 * o.val = o.val; omega))

/-- THE STORE: row `p`, channel `o` of what a grid point leaves in the result's buffer, of the contents of the input buffers. -/
theorem stored_at (c : Dev nD) (i : grid0.Coords) (arg3 : Memref sig .tc .vmem S1x1024x256 .f32) (h3 : arg3.IsWhole)
    (arg4 : Memref sig .tc .vmem S1x256x256 .f32) (h4 : arg4.IsWhole) (arg5 : Memref sig .tc .vmem S1x256x256 .f32) (h5 : arg5.IsWhole)
    (arg6 : Memref sig .tc .vmem S1x4x256 .f32) (h6 : arg6.IsWhole) (arg7 : Memref sig .tc .vmem S1x1024x256 .f32) (h7 : arg7.IsWhole)
    (x0 : Vec Ideal S1x1024x256 .f32) (x1 x2 : Vec Ideal S1x256x256 .f32) (x3 : Vec Ideal S1x4x256 .f32) (xt : TbBuf0 (F := Ideal) c tbM0_0)
    (u : Fin 1) (p : Fin 1024) (o : Fin 256) :
    out0_A_4 c i arg3 h3 arg4 h4 arg5 h5 arg6 h6 arg7 h7 x0 x1 x2 x3 xt (ix3 u p o)
      = normMoments (linear (fun d => geluScaled (linear (fun e => x0 (ix3 (0 : Fin 1) p e)) (fun o e => x1 (ix3 (0 : Fin 1) e o))
            (fun o => x3 (ix3 (0 : Fin 1) (0 : Fin 4) o)) d))
          (fun o d => x2 (ix3 (0 : Fin 1) d o)) (fun o => x3 (ix3 (0 : Fin 1) (1 : Fin 4) o)))
          (x3 (ix3 (0 : Fin 1) (2 : Fin 4) o)) (x3 (ix3 (0 : Fin 1) (3 : Fin 4) o)) o := by
  unfold out0_A_4
  rw [View.read_writes_junk_eq_canon]
  let r0 := View.readAt (Elt Ideal) arg3.view (Rect.unit (s := S1x1024x256) ![0, 0, 0] S1x1024x256.size inb_S1x1024x256_S1x1024x256_0_0_0).toLoadRect (h3.unread x0)
  let r1 := View.readAt (Elt Ideal) arg4.view (Rect.unit (s := S1x256x256) ![0, 0, 0] S1x256x256.size inb_S1x256x256_S1x256x256_0_0_0).toLoadRect (h4.unread x1)
  let r2 := View.readAt (Elt Ideal) arg5.view (Rect.unit (s := S1x256x256) ![0, 0, 0] S1x256x256.size inb_S1x256x256_S1x256x256_0_0_0).toLoadRect (h5.unread x2)
  let v0 := View.readAt (Elt Ideal) arg6.view (Rect.unit (s := S1x4x256) ![0, 0, 0] S1x1x256.size inb_S1x4x256_S1x1x256_0_0_0).toLoadRect (h6.unread x3)
  let v1 := View.readAt (Elt Ideal) arg6.view (Rect.unit (s := S1x4x256) ![0, 1, 0] S1x1x256.size inb_S1x4x256_S1x1x256_0_1_0).toLoadRect (h6.unread x3)
  let v2 := View.readAt (Elt Ideal) arg6.view (Rect.unit (s := S1x4x256) ![0, 2, 0] S1x1x256.size inb_S1x4x256_S1x1x256_0_2_0).toLoadRect (h6.unread x3)
  let v3 := View.readAt (Elt Ideal) arg6.view (Rect.unit (s := S1x4x256) ![0, 3, 0] S1x1x256.size inb_S1x4x256_S1x1x256_0_3_0).toLoadRect (h6.unread x3)
  have e0 : r0 = x0 := by
    show View.readAt _ _ _ _ = _
    rw [View.readAt_eq_ld, h3.read_unread, View.ld_unit_zero no_offset]
  have e1 : r1 = x1 := by
    show View.readAt _ _ _ _ = _
    rw [View.readAt_eq_ld, h4.read_unread, View.ld_unit_zero no_offset]
  have e2 : r2 = x2 := by
    show View.readAt _ _ _ _ = _
    rw [View.readAt_eq_ld, h5.read_unread, View.ld_unit_zero no_offset]
  have f0 (o : Fin 256) : v0 (ix3 (0 : Fin 1) (0 : Fin 1) o) = x3 (ix3 (0 : Fin 1) (0 : Fin 4) o) := by
    show View.readAt _ _ _ _ _ = _
    rw [View.readAt_eq_ld, h6.read_unread]; exact row_load x3 0 _ o
  have f1 (o : Fin 256) : v1 (ix3 (0 : Fin 1) (0 : Fin 1) o) = x3 (ix3 (0 : Fin 1) (1 : Fin 4) o) := by
    show View.readAt _ _ _ _ _ = _
    rw [View.readAt_eq_ld, h6.read_unread]; exact row_load x3 1 _ o
  have f2 (o : Fin 256) : v2 (ix3 (0 : Fin 1) (0 : Fin 1) o) = x3 (ix3 (0 : Fin 1) (2 : Fin 4) o) := by
    show View.readAt _ _ _ _ _ = _
    rw [View.readAt_eq_ld, h6.read_unread]; exact row_load x3 2 _ o
  have f3 (o : Fin 256) : v3 (ix3 (0 : Fin 1) (0 : Fin 1) o) = x3 (ix3 (0 : Fin 1) (3 : Fin 4) o) := by
    show View.readAt _ _ _ _ _ = _
    rw [View.readAt_eq_ld, h6.read_unread]; exact row_load x3 3 _ o
  show View.canon ([⟨Rect.unit (s := S1x1024x256) ![0, 0, 0] S1x1024x256.size inb_S1x1024x256_S1x1024x256_0_0_0,
      k0_pay1 (k0_pay2 v2) (k0_pay3 v3) (k0_pay4 r0 r1 r2 v0 v1) (k0_pay5 r0 r1 r2 v0 v1) (k0_pay6 (F := Ideal))⟩] :
      List (View.Piece (Elt Ideal) S1x1024x256 .f32)) (ix3 u p o) = _
  rw [View.canon_unit_zero no_offset, block_at, e0, e1, e2, f2, f3]
  simp only [f0, f1]

end Cert.Proof

end
-- ==== Proof.Host.lean ====
/- What the host operations before the launch prepare: the features flattened to 4096 rows an example, both weights transposed, the first
   layer's weights and bias scaled, and the four vectors of a regime packed as four rows. -/
module

public import proofs.«01_k».proof.Proof.Gen.KernelIdeal.Frame
public import proofs.«01_k».proof.Proof.Consts
public import Idealize.ShloMosaic.Lib.Pipeline.Value
public import Idealize.ShloMosaic.Lib.ValueLayout
public import Idealize.ShloMosaic.Lib.StableHlo.RunRead

@[expose] public section

noncomputable section

namespace Cert.Proof

open Idealize.ShloMosaic Idealize.ShloMosaic.TcCoe Idealize.ShloMosaic.ValueIdx
open Cert.KernelIdeal Cert.KernelIdeal.Gen Cert.Proof.Rows Cert.Proof.Consts

variable (m : (ℓ : Loc nD τ sig) → Buf (Elt Ideal) ℓ) (c : Dev nD)

/-- The features that device `c` is given. -/
abbrev aX : Vec Ideal S16x64x64x256 .f32 := m ((c : Thread nD τ).loc main_arg0)
/-- The regime of every example. -/
abbrev aR : Vec Ideal S16 .i32 := m ((c : Thread nD τ).loc main_arg1)
/-- The first layer's weights, of every regime. -/
abbrev aW1 : Vec Ideal S8x256x256 .f32 := m ((c : Thread nD τ).loc main_arg2)
/-- The first layer's biases. -/
abbrev aB1 : Vec Ideal S8x256 .f32 := m ((c : Thread nD τ).loc main_arg3)
/-- The second layer's weights. -/
abbrev aW2 : Vec Ideal S8x256x256 .f32 := m ((c : Thread nD τ).loc main_arg4)
/-- The second layer's biases. -/
abbrev aB2 : Vec Ideal S8x256 .f32 := m ((c : Thread nD τ).loc main_arg5)
/-- The normalization's scales. -/
abbrev aG : Vec Ideal S8x256 .f32 := m ((c : Thread nD τ).loc main_arg6)
/-- The normalization's shifts. -/
abbrev aB : Vec Ideal S8x256 .f32 := m ((c : Thread nD τ).loc main_arg7)

/-- The features as the launch reads them. -/
abbrev hX : Vec Ideal S16x4096x256 .f32 := V m c main_call0_v0
/-- The first layer's weights as the launch reads them. -/
abbrev hW1 : Vec Ideal S8x256x256 .f32 := V m c main_call0_v3
/-- The second layer's weights as the launch reads them. -/
abbrev hW2 : Vec Ideal S8x256x256 .f32 := V m c main_call0_v4
/-- The packed vectors, four rows a regime. -/
abbrev hP : Vec Ideal S8x4x256 .f32 := V m c main_call0_v11

/-- Row `64 n + p` of an example's flattened features is position `(n, p)`. -/
theorem hX_at (b : Fin 16) (r : Fin 4096) (n p : Fin 64) (hr : r.val = 64 * n.val + p.val) (d : Fin 256) :
    hX m c (ix3 b r d) = aX m c (ix4 b n p d) := by
  have e : hX m c = shapeCast S16x4096x256 (aX m c) shapeCasts_S16x64x64x256_S16x4096x256 := by
    show StableHlo.after hostOps0 _ (Proc.devRef .tc main_call0_v0) = _
    after_reads_simp
    rfl
  rw [e]
  refine shapeCast_apply _ _ _ _ ?_
  rw [Shape.rowMajor_val_four, Shape.rowMajor_val_three]
  show ((b.val * 64 + n.val) * 64 + p.val) * 256 + d.val = (b.val * 4096 + r.val) * 256 + d.val
  rw [hr]; ring

/-- The first layer's weights, transposed and scaled. -/
theorem hW1_at (k : Fin 8) (e o : Fin 256) : hW1 m c (ix3 k e o) = aW1 m c (ix3 k o e) * ((cR : ℝ) : EReal) := by
  have h : hW1 m c = mulf (F := Ideal) (transpose S8x256x256 [0, 2, 1] (aW1 m c) transposes_S8x256x256_S8x256x256_0_2_1)
      (broadcastInDim S8x256x256 ![] bcast_S_S8x256x256 (constant (F := Ideal) S_ .f32 0x3F3504F3#32)) := by
    show StableHlo.after hostOps0 _ (Proc.devRef .tc main_call0_v3) = _
    after_reads_simp
    rfl
  rw [h]
  show transpose S8x256x256 [0, 2, 1] (aW1 m c) transposes_S8x256x256_S8x256x256_0_2_1 (ix3 k e o) * Ideal.ofBits .f32 0x3F3504F3#32 = _
  rw [c_word]
  exact congrArg (· * ((cR : ℝ) : EReal)) (transpose_ix3_021_apply (aW1 m c) transposes_S8x256x256_S8x256x256_0_2_1 k e o)

/-- The second layer's weights, transposed. -/
theorem hW2_at (k : Fin 8) (d o : Fin 256) : hW2 m c (ix3 k d o) = aW2 m c (ix3 k o d) := by
  have h : hW2 m c = transpose S8x256x256 [0, 2, 1] (aW2 m c) transposes_S8x256x256_S8x256x256_0_2_1 := by
    show StableHlo.after hostOps0 _ (Proc.devRef .tc main_call0_v4) = _
    after_reads_simp
    rfl
  rw [h]
  exact transpose_ix3_021_apply (aW2 m c) transposes_S8x256x256_S8x256x256_0_2_1 k d o

/-- A matrix of vectors with an axis of one added between its two. -/
theorem middle_unit (x : Vec Ideal S8x256 .f32) (k : Fin 8) (u : Fin 1) (o : Fin 256) :
    broadcastInDim S8x1x256 ![0, 2] bcast_S8x256_S8x1x256_0_2 x (ix3 k u o) = x (ix2 k o) :=
  broadcastInDim_apply _ _ x _ _ fun a => match a with | ⟨0, _⟩ => rfl | ⟨1, _⟩ => rfl

/-- The four packed vectors, as one family. -/
def packed (j : Fin 4) : Vec Ideal S8x1x256 .f32 :=
  ![broadcastInDim S8x1x256 ![0, 2] bcast_S8x256_S8x1x256_0_2
      (mulf (F := Ideal) (aB1 m c) (broadcastInDim S8x256 ![] bcast_S_S8x256 (constant (F := Ideal) S_ .f32 0x3F3504F3#32)) : Vec Ideal S8x256 .f32),
    broadcastInDim S8x1x256 ![0, 2] bcast_S8x256_S8x1x256_0_2 (aB2 m c),
    broadcastInDim S8x1x256 ![0, 2] bcast_S8x256_S8x1x256_0_2 (aG m c),
    broadcastInDim S8x1x256 ![0, 2] bcast_S8x256_S8x1x256_0_2 (aB m c)] j

/-- Row `j` of the packed array is the `j`-th vector. -/
theorem hP_at (k : Fin 8) (j : Fin 4) (o : Fin 256) : hP m c (ix3 k j o) = packed m c j (ix3 k (0 : Fin 1) o) := by
  have h : hP m c = concatenate S8x4x256 1 (List.ofFn fun n : Fin 4 => (⟨S8x1x256, packed m c n⟩ : (s : Shape) × (s.Idx → Elt Ideal .f32)))
      concatenates_S8x1x256_S8x1x256_S8x1x256_S8x1x256_S8x4x256_d1 := by
    show StableHlo.after hostOps0 _ (Proc.devRef .tc main_call0_v11) = _
    after_reads_simp
    rfl
  rw [h]
  exact concatenate_ofFn_unit_apply (t := S8x4x256) (s₁ := S8x1x256) (1 : Fin 3) (packed m c) _ rfl rfl (ix3 k j o : S8x4x256.Idx) j rfl (ix3 k (0 : Fin 1) o) fun b hb => match b with
    | ⟨0, _⟩ => rfl
    | ⟨1, _⟩ => absurd rfl hb
    | ⟨2, _⟩ => rfl

/-- The first row: the first layer's bias, scaled. -/
theorem hP_first (k : Fin 8) (o : Fin 256) : hP m c (ix3 k (0 : Fin 4) o) = aB1 m c (ix2 k o) * ((cR : ℝ) : EReal) := by
  refine (hP_at m c k 0 o).trans (Eq.trans (middle_unit
    (mulf (F := Ideal) (aB1 m c) (broadcastInDim S8x256 ![] bcast_S_S8x256 (constant (F := Ideal) S_ .f32 0x3F3504F3#32))) k 0 o) ?_)
  show aB1 m c (ix2 k o) * Ideal.ofBits .f32 0x3F3504F3#32 = _
  rw [c_word]

/-- The second row: the second layer's bias. -/
theorem hP_second (k : Fin 8) (o : Fin 256) : hP m c (ix3 k (1 : Fin 4) o) = aB2 m c (ix2 k o) :=
  (hP_at m c k 1 o).trans (middle_unit _ k 0 o)

/-- The third row: the normalization's scale. -/
theorem hP_third (k : Fin 8) (o : Fin 256) : hP m c (ix3 k (2 : Fin 4) o) = aG m c (ix2 k o) :=
  (hP_at m c k 2 o).trans (middle_unit _ k 0 o)

/-- The fourth row: the normalization's shift. -/
theorem hP_fourth (k : Fin 8) (o : Fin 256) : hP m c (ix3 k (3 : Fin 4) o) = aB m c (ix2 k o) :=
  (hP_at m c k 3 o).trans (middle_unit _ k 0 o)

end Cert.Proof

end
-- ==== Proof.Array.lean ====
/- What the launch leaves in its result array: at example `b`, row `r` and channel `o`, the fused row over the example's features and the
   weights and vectors of the example's regime. -/
module

public import proofs.«01_k».proof.Proof.Pre
public import proofs.«01_k».proof.Proof.Stored
public import proofs.«01_k».proof.Proof.Host
public import Idealize.ShloMosaic.Lib.Pipeline.Covers

@[expose] public section

noncomputable section

namespace Cert.Proof

open Idealize.ShloMosaic Idealize.ShloMosaic.TcCoe Idealize.ShloMosaic.ValueIdx
open Cert.KernelIdeal Cert.KernelIdeal.Gen Cert.Proof.Rows

variable (m : (ℓ : Loc nD τ sig) → Buf (Elt Ideal) ℓ) (hO : Ok (F := Ideal) m) (hr : ∀ i, (tbl m 0 i).toNat < 8) (c : Dev nD)

/-- The regime the table names at example `b`. -/
def tableRegime (b : Fin 16) : Fin 8 := ⟨(tbl m 0 (ix1 b)).toNat, hr (ix1 b)⟩

/-- The example of a grid point. -/
abbrev exampleOf (t : Fin (cfgM m hO).N) : Fin 16 := grid0.coords t 0

/-- Row `p` of a grid point's block is this row of the array. -/
def rowOf (t : Fin (cfgM m hO).N) (p : Fin 1024) : Fin 4096 :=
  ⟨1024 * (grid0.coords t 1).val + p.val, by have h : (grid0.coords t 1).val < 4 := (grid0.coords t 1).isLt; omega⟩

/-- A grid coordinate read back from its 32-bit word. -/
theorem word32 (n k : Nat) (h : n < k) (hk : k ≤ 4096) : (BitVec.ofNat 32 n).toNat = n := by
  rw [BitVec.toNat_ofNat]; omega

/-- The features' block at a grid point. -/
theorem emb_features (t : Fin (cfgM m hO).N) (u : Fin 1) (p : Fin 1024) (d : Fin 256) :
    (((cfgM m hO).win 0).blk t).view.emb (ix3 u p d : S1x1024x256.Idx) = (ix3 (exampleOf m hO t) (rowOf m hO t p) d : S16x4096x256.Idx) := by
  have h0 : (grid0.coords t 0).val < 16 := (grid0.coords t 0).isLt
  have h1 : (grid0.coords t 1).val < 4 := (grid0.coords t 1).isLt
  funext a; apply Fin.ext
  match a with
  | ⟨0, _⟩ =>
    show (BitVec.ofNat 32 (grid0.coords t 0).val).toNat * 1 + 1 * u.val = (grid0.coords t 0).val
    rw [word32 _ _ h0 (by decide)]; omega
  | ⟨1, _⟩ =>
    show (BitVec.ofNat 32 (grid0.coords t 1).val).toNat * 1024 + 1 * p.val = 1024 * (grid0.coords t 1).val + p.val
    rw [word32 _ _ h1 (by decide)]; omega
  | ⟨2, _⟩ =>
    show 0 * 256 + 1 * d.val = d.val
    omega

/-- The result's block at a grid point. -/
theorem emb_result (t : Fin (cfgM m hO).N) (u : Fin 1) (p : Fin 1024) (d : Fin 256) :
    (((cfgM m hO).win 4).blk t).view.emb (ix3 u p d : S1x1024x256.Idx) = (ix3 (exampleOf m hO t) (rowOf m hO t p) d : S16x4096x256.Idx) := by
  have h0 : (grid0.coords t 0).val < 16 := (grid0.coords t 0).isLt
  have h1 : (grid0.coords t 1).val < 4 := (grid0.coords t 1).isLt
  funext a; apply Fin.ext
  match a with
  | ⟨0, _⟩ =>
    show (BitVec.ofNat 32 (grid0.coords t 0).val).toNat * 1 + 1 * u.val = (grid0.coords t 0).val
    rw [word32 _ _ h0 (by decide)]; omega
  | ⟨1, _⟩ =>
    show (BitVec.ofNat 32 (grid0.coords t 1).val).toNat * 1024 + 1 * p.val = 1024 * (grid0.coords t 1).val + p.val
    rw [word32 _ _ h1 (by decide)]; omega
  | ⟨2, _⟩ =>
    show 0 * 256 + 1 * d.val = d.val
    omega

/-- The word that places a grid point's weights is its example's regime. -/
theorem placed (t : Fin (cfgM m hO).N) :
    (Pipeline.Prefetch.Contents.at (tbl m) 0 (Rect.unit (s := S16) (k0_off1 (grid0.coords t)) S1.size (Facts₀.k0_off1_inb (grid0.coords t))) Facts₀.numel1_S1).toNat
      = (tableRegime m hr (exampleOf m hO t)).val :=
  Eq.trans (congrArg BitVec.toNat (table_word_ideal (tbl m) (grid0.coords t)))
    (show (tbl m 0 (ix1 (exampleOf m hO t))).toNat = (tableRegime m hr (exampleOf m hO t)).val from rfl)

/-- The first layer's weights' block at a grid point. -/
theorem emb_first (t : Fin (cfgM m hO).N) (u : Fin 1) (e o : Fin 256) :
    (((cfgM m hO).win 1).blk t).view.emb (ix3 u e o : S1x256x256.Idx) = (ix3 (tableRegime m hr (exampleOf m hO t)) e o : S8x256x256.Idx) := by
  have hp := placed m hO hr t
  funext a; apply Fin.ext
  match a with
  | ⟨0, _⟩ => exact (congrArg (fun n => n * 1 + 1 * u.val) hp).trans (by show _ * 1 + 1 * u.val = (tableRegime m hr (exampleOf m hO t)).val; omega)
  | ⟨1, _⟩ => show 0 * 256 + 1 * e.val = e.val; omega
  | ⟨2, _⟩ => show 0 * 256 + 1 * o.val = o.val; omega

/-- The second layer's weights' block at a grid point. -/
theorem emb_second (t : Fin (cfgM m hO).N) (u : Fin 1) (e o : Fin 256) :
    (((cfgM m hO).win 2).blk t).view.emb (ix3 u e o : S1x256x256.Idx) = (ix3 (tableRegime m hr (exampleOf m hO t)) e o : S8x256x256.Idx) := by
  have hp := placed m hO hr t
  funext a; apply Fin.ext
  match a with
  | ⟨0, _⟩ => exact (congrArg (fun n => n * 1 + 1 * u.val) hp).trans (by show _ * 1 + 1 * u.val = (tableRegime m hr (exampleOf m hO t)).val; omega)
  | ⟨1, _⟩ => show 0 * 256 + 1 * e.val = e.val; omega
  | ⟨2, _⟩ => show 0 * 256 + 1 * o.val = o.val; omega

/-- The packed vectors' block at a grid point. -/
theorem emb_vectors (t : Fin (cfgM m hO).N) (u : Fin 1) (j : Fin 4) (o : Fin 256) :
    (((cfgM m hO).win 3).blk t).view.emb (ix3 u j o : S1x4x256.Idx) = (ix3 (tableRegime m hr (exampleOf m hO t)) j o : S8x4x256.Idx) := by
  have hp := placed m hO hr t
  funext a; apply Fin.ext
  match a with
  | ⟨0, _⟩ => exact (congrArg (fun n => n * 1 + 1 * u.val) hp).trans (by show _ * 1 + 1 * u.val = (tableRegime m hr (exampleOf m hO t)).val; omega)
  | ⟨1, _⟩ => show 0 * 4 + 1 * j.val = j.val; omega
  | ⟨2, _⟩ => show 0 * 256 + 1 * o.val = o.val; omega

/-- The features' block that the launch fetches, read at an index, is the array at the index's place. -/
theorem blk_features (t : Fin (cfgM m hO).N) (u : Fin 1) (p : Fin 1024) (d : Fin 256) :
    (iblk m hO c 0 t : Vec Ideal S1x1024x256 .f32) (ix3 u p d) = hX m c (ix3 (exampleOf m hO t) (rowOf m hO t p) d) :=
  congrArg (hX m c) (emb_features m hO t u p d)

/-- The first layer's weights, read so. -/
theorem blk_first (t : Fin (cfgM m hO).N) (u : Fin 1) (e o : Fin 256) :
    (iblk m hO c 1 t : Vec Ideal S1x256x256 .f32) (ix3 u e o) = hW1 m c (ix3 (tableRegime m hr (exampleOf m hO t)) e o) :=
  congrArg (hW1 m c) (emb_first m hO hr t u e o)

/-- The second layer's weights, read so. -/
theorem blk_second (t : Fin (cfgM m hO).N) (u : Fin 1) (e o : Fin 256) :
    (iblk m hO c 2 t : Vec Ideal S1x256x256 .f32) (ix3 u e o) = hW2 m c (ix3 (tableRegime m hr (exampleOf m hO t)) e o) :=
  congrArg (hW2 m c) (emb_second m hO hr t u e o)

/-- The packed vectors, read so. -/
theorem blk_vectors (t : Fin (cfgM m hO).N) (u : Fin 1) (j : Fin 4) (o : Fin 256) :
    (iblk m hO c 3 t : Vec Ideal S1x4x256 .f32) (ix3 u j o) = hP m c (ix3 (tableRegime m hr (exampleOf m hO t)) j o) :=
  congrArg (hP m c) (emb_vectors m hO hr t u j o)

/-- The value of the result array at an example, a row and a channel. -/
def resultAt (b : Fin 16) (r : Fin 4096) (o : Fin 256) : EReal :=
  normMoments (linear (fun d => geluScaled (linear (fun e => hX m c (ix3 b r e)) (fun o e => hW1 m c (ix3 (tableRegime m hr b) e o))
      (fun o => hP m c (ix3 (tableRegime m hr b) (0 : Fin 4) o)) d))
    (fun o d => hW2 m c (ix3 (tableRegime m hr b) d o)) (fun o => hP m c (ix3 (tableRegime m hr b) (1 : Fin 4) o)))
    (hP m c (ix3 (tableRegime m hr b) (2 : Fin 4) o)) (hP m c (ix3 (tableRegime m hr b) (3 : Fin 4) o)) o

/-- The result array. -/
def resultArray : Vec Ideal S16x4096x256 .f32 := fun i => resultAt m hr c (i 0) (i 1) (i 2)

/-- What a grid point writes back is its block of the result array. -/
theorem outs_at (t : Fin (cfgM m hO).N) (u : Fin 1) (p : Fin 1024) (o : Fin 256) :
    outsAt0 m hO c t (ix3 u p o) = resultAt m hr c (exampleOf m hO t) (rowOf m hO t p) o := by
  unfold outsAt0
  refine (stored_at c (grid0.coords t) _ _ _ _ _ _ _ _ _ _ (iblk m hO c 0 t) (iblk m hO c 1 t) (iblk m hO c 2 t) (iblk m hO c 3 t) (tbl m 0)
    u p o).trans ?_
  unfold resultAt
  simp only [blk_features, blk_first m hO hr, blk_second m hO hr, blk_vectors m hO hr]

/-- The same at any index of the block. -/
theorem block_entry (t : Fin (cfgM m hO).N) (j : S1x1024x256.Idx) :
    outsAt0 m hO c t j = resultArray m hr c ((((cfgM m hO).win 4).blk t).view.emb j) := by
  obtain ⟨u, p, o, rfl⟩ : ∃ (u : Fin 1) (p : Fin 1024) (o : Fin 256), j = ix3 u p o := ⟨j 0, j 1, j 2, eq_ix3 _⟩
  exact (outs_at m hO hr c t u p o).trans (congrArg (resultArray m hr c) (emb_result m hO t u p o)).symm

/-- So the written block is the array's block. -/
theorem flushed_eq (t : Fin (cfgM m hO).N) :
    (dats m hO 0 c).flushed 4 t = (((cfgM m hO).win 4).blk t).view.read (Elt Ideal) (resultArray m hr c) := by
  show ((cfgM m hO).win 4).cut (grid0.coords t) ((dats m hO 0 c).after 4 t) = _
  rw [after0_4]
  funext j
  exact block_entry m hO hr c t j

/-- Every index of the result array is in a written block. -/
theorem covered (i : S16x4096x256.Idx) :
    ∃ t : Fin (cfgM m hO).N, ((cfgM m hO).win 4).flush t = true ∧ i ∈ (((cfgM m hO).win 4).blk t).view.set := by
  have h1 : (i 1 : Fin 4096).val < 4096 := (i 1 : Fin 4096).isLt
  obtain ⟨t, ht⟩ := Pipeline.Grid.coords_surjective grid0 (fun a => match a with
    | ⟨0, _⟩ => (i 0 : Fin 16)
    | ⟨1, _⟩ => (⟨(i 1 : Fin 4096).val / 1024, by omega⟩ : Fin 4))
  have e0 : (grid0.coords t 0 : Fin 16) = i 0 := congrFun ht 0
  have e1 : (grid0.coords t 1 : Fin 4).val = (i 1 : Fin 4096).val / 1024 := congrArg Fin.val (congrFun ht 1)
  refine ⟨t, flush0_4 _ _, ?_⟩
  have hm := (((cfgM m hO).win 4).blk t).view.emb_mem_set
    (ix3 (0 : Fin 1) (⟨(i 1 : Fin 4096).val % 1024, Nat.mod_lt _ (by decide)⟩ : Fin 1024) (i 2 : Fin 256) : S1x1024x256.Idx)
  have hi : (ix3 (exampleOf m hO t) (rowOf m hO t ⟨(i 1 : Fin 4096).val % 1024, Nat.mod_lt _ (by decide)⟩) (i 2 : Fin 256) : S16x4096x256.Idx) = i := by
    funext a; apply Fin.ext
    match a with
    | ⟨0, _⟩ => exact congrArg Fin.val e0
    | ⟨1, _⟩ =>
      show 1024 * (grid0.coords t 1 : Fin 4).val + (i 1 : Fin 4096).val % 1024 = (i 1 : Fin 4096).val
      rw [e1]; omega
    | ⟨2, _⟩ => rfl
  have he := (emb_result m hO t 0 ⟨(i 1 : Fin 4096).val % 1024, Nat.mod_lt _ (by decide)⟩ (i 2)).trans hi
  exact Eq.subst (motive := fun k => k ∈ (((cfgM m hO).win 4).blk t).view.set) he hm

/-- THE RESULT ARRAY after the launch. -/
theorem final_array : (dats m hO 0 c).arrAt 4 (cfgM m hO).N = resultArray m hr c :=
  (dats m hO 0 c).arrAt_eq_of_cover 4 (resultArray m hr c) (fun t _ => flushed_eq m hO hr c t) (covered m hO)

end Cert.Proof

end
-- ==== Proof.Take.lean ====
/- The reference's gathers: with every regime in range, a gathered weight matrix or vector is the one of the example's regime. -/
module

public import proofs.«01_k».proof.Proof.Gen.ReferenceIdeal.Read
public import Idealize.ShloMosaic.Lib.StableHlo.Predicate
public import Idealize.ShloMosaic.Lib.ReduceAll
public import Idealize.ShloMosaic.Lib.ValueIdxCoords
public import Idealize.ShloMosaic.Lib.Routing.Ops

@[expose] public section

noncomputable section

namespace Cert.Proof

open Idealize.ShloMosaic Idealize.ShloMosaic.ValueIdx
open Cert.ReferenceIdeal Cert.ReferenceIdeal.Read

/-- A word below 8 is not negative and at most 7, read signed. -/
theorem word_checks {w : BitVec 32} (h : w.toNat < 8) :
    IntOp.cmpi .slt w 0#32 = 0#1 ∧ IntOp.cmpi .sge w 0#32 = 1#1 ∧ IntOp.cmpi .sle w 7#32 = 1#1 := by
  have e := StableHlo.Predicate.toInt_eq_toNat_of_lt (a := w) (by omega)
  have e0 : (0#32 : BitVec 32).toInt = 0 := rfl
  have e7 : (7#32 : BitVec 32).toInt = 7 := rfl
  simp only [IntOp.cmpi, BitVec.slt, BitVec.sle, e, e0, e7]
  exact ⟨congrArg BitVec.ofBool (decide_eq_false (by omega)), congrArg BitVec.ofBool (decide_eq_true (by omega)),
    congrArg BitVec.ofBool (decide_eq_true (by omega))⟩

/-- The index the gathers take is the regime itself: no regime is negative. -/
theorem take_index {x1 : (⟨S16, .i32⟩ : BufTy).Contents (Elt Ideal)} (hr : ∀ i, (x1 i).toNat < 8) (i : S16x1.Idx) :
    val_main_call0_v5 (F := Ideal) x1 i = x1 (idx_main_call0_v5 i) := by
  rw [val_main_call0_v5_apply, val_main_call0_v4_apply, val_main_call0_v1_apply, val_main_call0_v0_apply, val_main_call0_c_apply,
    (word_checks (hr _)).1]
  exact select_zero _ _

/-- Every index passes the gathers' range check. -/
theorem take_mask {x1 : (⟨S16, .i32⟩ : BufTy).Contents (Elt Ideal)} (hr : ∀ i, (x1 i).toNat < 8) (i : S16.Idx) :
    val_main_call0_v12 (F := Ideal) x1 i = 1#1 := by
  unfold val_main_call0_v12
  refine Host.reduce_andi_one _ _ _ _ _ rfl fun j => ?_
  rw [val_main_call0_v11_apply, val_main_call0_v7_apply, val_main_call0_v10_apply, take_index hr, val_main_call0_v6_apply,
    val_main_call0_c_2_apply, val_main_call0_v9_apply, val_main_call0_v8_apply, val_main_call0_c_1_apply, (word_checks (hr _)).2.1,
    (word_checks (hr _)).2.2]
  rfl

/-- A gather of whole matrices: entry `(c, o, d)` is entry `(b, o, d)` of the operand, `b` the index at `c`. -/
theorem gather_matrix (w : (⟨S8x256x256, .f32⟩ : BufTy).Contents (Elt Ideal)) (idx : IVec S16x1 32) (c : Fin 16) (o d : Fin 256) (b : Fin 8)
    (hb : (idx (ix2 c (0 : Fin 1))).toInt = b.val) :
    Host.gather gather_S8x256x256_S16x1_S16x256x256_12_0_n_n_0_1_1256256 w idx (ix3 c o d) = w (ix3 b o d) := by
  unfold Host.gather
  refine congrArg w (funext fun a => Fin.ext ?_)
  generalize hg : gather_S8x256x256_S16x1_S16x256x256_12_0_n_n_0_1_1256256 = g
  change g.start (ix3 c o d) idx a + g.batchCoord (ix3 c o d) a + g.offCoord (ix3 c o d) a = (ix3 b o d a).val
  rw [g.batchCoord_eq_zero _ _ (by subst hg; exact List.not_mem_nil), Nat.add_zero]
  match a with
  | ⟨0, _⟩ =>
    have hm : (0 : Fin 3) ∈ g.startIndexMap := by subst hg; exact List.mem_singleton.2 rfl
    change g.start (ix3 c o d) idx (0 : Fin 3) + g.offCoord (ix3 c o d) (0 : Fin 3) = b.val
    rw [g.offCoord_eq_zero _ _ (fun h => ((g.mem_sKept 0).1 h).1 (by subst hg; exact List.mem_singleton.2 rfl)), Nat.add_zero]
    unfold GatherDims.start
    rw [dif_pos hm]
    have hsi : g.siIdx (ix3 c o d) ⟨g.startIndexMap.idxOf 0, List.idxOf_lt_length_iff.2 hm⟩ = ix2 c (0 : Fin 1) := by
      subst hg
      funext b'
      apply Fin.ext
      match b' with
      | ⟨0, _⟩ => rfl
      | ⟨1, _⟩ => rfl
    rw [hsi, hb]
    have hbl := b.isLt
    subst hg
    change min ((b.val : Int)).toNat (8 - 1) = b.val
    omega
  | ⟨1, _⟩ =>
    change g.start (ix3 c o d) idx (1 : Fin 3) + g.offCoord (ix3 c o d) (1 : Fin 3) = o.val
    unfold GatherDims.start
    subst hg
    rw [dif_neg (by decide), Nat.zero_add]
    rfl
  | ⟨2, _⟩ =>
    change g.start (ix3 c o d) idx (2 : Fin 3) + g.offCoord (ix3 c o d) (2 : Fin 3) = d.val
    unfold GatherDims.start
    subst hg
    rw [dif_neg (by decide), Nat.zero_add]
    rfl

/-- The regime of example `b`, as one of the 8. -/
abbrev regime (x1 : (⟨S16, .i32⟩ : BufTy).Contents (Elt Ideal)) (hr : ∀ i, (x1 i).toNat < 8) (b : Fin 16) : Fin 8 := ⟨(x1 (ix1 b)).toNat, hr (ix1 b)⟩

/-- The gather's start index of example `b` is read at `b`. -/
theorem idx_take (b : Fin 16) : idx_main_call0_v5 (ix2 b (0 : Fin 1)) = ix1 b := by
  funext a
  match a with
  | ⟨0, _⟩ => rfl

/-- The gathered weights of example `b` are the weights of its regime. -/
theorem take_matrix {x1 : (⟨S16, .i32⟩ : BufTy).Contents (Elt Ideal)} (hr : ∀ i, (x1 i).toNat < 8)
    (w : (⟨S8x256x256, .f32⟩ : BufTy).Contents (Elt Ideal)) (b : Fin 16) (o d : Fin 256) :
    val_main_v0 (F := Ideal) x1 w (ix3 b o d) = w (ix3 (regime x1 hr b) o d) := by
  rw [val_main_v0_apply, val_main_call0_v14_apply, take_mask hr, select_one]
  unfold val_main_call0_v13
  refine gather_matrix w _ b o d (regime x1 hr b) ?_
  rw [take_index hr, idx_take]
  exact StableHlo.Predicate.toInt_eq_toNat_of_lt ((hr _).trans (by norm_num))

/-- The gathered vector of example `b` is the vector of its regime. -/
theorem take_vector {x1 : (⟨S16, .i32⟩ : BufTy).Contents (Elt Ideal)} (hr : ∀ i, (x1 i).toNat < 8)
    (w : (⟨S8x256, .f32⟩ : BufTy).Contents (Elt Ideal)) (b : Fin 16) (o : Fin 256) :
    val_main_v1 (F := Ideal) x1 w (ix2 b o) = w (ix2 (regime x1 hr b) o) := by
  rw [val_main_v1_apply, val_main_call1_v14_apply, show val_main_call1_v12 (F := Ideal) x1 = val_main_call0_v12 (F := Ideal) x1 from rfl,
    take_mask hr, select_one]
  unfold val_main_call1_v13
  refine Routing.gather_row _ rfl rfl rfl rfl rfl w _ b o (regime x1 hr b) ?_ (by norm_num)
  rw [show val_main_call1_v5 (F := Ideal) x1 = val_main_call0_v5 (F := Ideal) x1 from rfl]
  refine (take_index hr (ix2 b (0 : Fin 1))).trans ?_
  rw [idx_take]
  exact BitVec.eq_of_toNat_eq (BitVec.toNat_ofNat _ _ ▸ (Nat.mod_eq_of_lt (x1 (ix1 b)).isLt).symm)

end Cert.Proof

end
-- ==== Proof.Reference.lean ====
/- What the reference computes: at example `b`, grid position `(n, p)` and channel `o` it is the plain row of Rows.lean, over the row of
   features at `(b, n, p)` and the weights, biases, scale and shift of the example's regime. -/
module

public import proofs.«01_k».proof.Proof.Take
public import proofs.«01_k».proof.Proof.Consts

@[expose] public section

noncomputable section

namespace Cert.Proof

open Idealize.ShloMosaic Idealize.ShloMosaic.ValueIdx
open Cert.ReferenceIdeal Cert.ReferenceIdeal.Read Cert.Proof.Rows Cert.Proof.Consts

section
variable {x0 : (⟨S16x64x64x256, .f32⟩ : BufTy).Contents (Elt Ideal)} {x1 : (⟨S16, .i32⟩ : BufTy).Contents (Elt Ideal)}
  {x2 x4 : (⟨S8x256x256, .f32⟩ : BufTy).Contents (Elt Ideal)} {x3 x5 x6 x7 : (⟨S8x256, .f32⟩ : BufTy).Contents (Elt Ideal)}
  (hr : ∀ i, (x1 i).toNat < 8)

/-- The first linear layer. -/
theorem ref_hidden (b : Fin 16) (n p : Fin 64) (o : Fin 256) :
    val_main_v9 (F := Ideal) x0 x1 x2 x3 (ix4 b n p o)
      = linear (fun d => x0 (ix4 b n p d)) (fun o d => x2 (ix3 (regime x1 hr b) o d)) (fun o => x3 (ix2 (regime x1 hr b) o)) o := by
  rw [val_main_v9_apply, val_main_v6_apply, val_main_v8_apply, val_main_v7_apply,
    show idx_main_v7 (idx_main_v8 (ix4 b n p o)) = ix2 b o from eq_ix2 _, take_vector hr]
  refine congrArg (· + x3 (ix2 (regime x1 hr b) o)) (Finset.sum_congr rfl fun k _ => ?_)
  rw [show lidx_main_v6 (ix4 b n p o) k = ix4 b n p k from eq_ix4 _, show ridx_main_v6 (ix4 b n p o) k = ix3 b o k from eq_ix3 _, take_matrix hr]

/-- The GELU of the first layer. -/
theorem ref_gelu (i : S16x64x64x256.Idx) :
    val_main_v16 (F := Ideal) x0 x1 x2 x3 i = gelu (val_main_v9 (F := Ideal) x0 x1 x2 x3 i) := by
  rw [val_main_v16_apply, val_main_v11_apply, val_main_v10_apply, val_main_cst_apply, val_main_v15_apply, val_main_v14_apply,
    val_main_v12_apply, val_main_v13_apply, val_main_cst_0_apply]
  simp only [Ideal.mulf_def, Ideal.ofBits_def, Ideal.hostUnary_erfc_def, Ideal.hostNegf_def, Ideal.negf_def, half_word, c_word]
  rfl

/-- The second linear layer, at example `b`. -/
theorem ref_second (b : Fin 16) (n p : Fin 64) (o : Fin 256) :
    val_main_v20 (F := Ideal) x0 x1 x2 x3 x4 x5 (ix4 b n p o)
      = linear (fun d => gelu (linear (fun d => x0 (ix4 b n p d)) (fun o d => x2 (ix3 (regime x1 hr b) o d)) (fun o => x3 (ix2 (regime x1 hr b) o)) d))
          (fun o d => x4 (ix3 (regime x1 hr b) o d)) (fun o => x5 (ix2 (regime x1 hr b) o)) o := by
  rw [val_main_v20_apply, val_main_v17_apply, val_main_v19_apply, val_main_v18_apply,
    show idx_main_v18 (idx_main_v19 (ix4 b n p o)) = ix2 b o from eq_ix2 _,
    show val_main_v3 (F := Ideal) x1 x5 = val_main_v1 (F := Ideal) x1 x5 from rfl, take_vector hr]
  refine congrArg (· + x5 (ix2 (regime x1 hr b) o)) (Finset.sum_congr rfl fun k _ => ?_)
  rw [show lidx_main_v17 (ix4 b n p o) k = ix4 b n p k from eq_ix4 _, show ridx_main_v17 (ix4 b n p o) k = ix3 b o k from eq_ix3 _,
    show val_main_v2 (F := Ideal) x1 x4 = val_main_v0 (F := Ideal) x1 x4 from rfl, take_matrix hr, ref_gelu, ref_hidden hr]

/-- The second layer's row at `(b, n, p)`. -/
abbrev secondRow (x0 : (⟨S16x64x64x256, .f32⟩ : BufTy).Contents (Elt Ideal)) (x1 : (⟨S16, .i32⟩ : BufTy).Contents (Elt Ideal))
    (x2 : (⟨S8x256x256, .f32⟩ : BufTy).Contents (Elt Ideal)) (x3 : (⟨S8x256, .f32⟩ : BufTy).Contents (Elt Ideal))
    (x4 : (⟨S8x256x256, .f32⟩ : BufTy).Contents (Elt Ideal)) (x5 : (⟨S8x256, .f32⟩ : BufTy).Contents (Elt Ideal)) (b : Fin 16) (n p : Fin 64) (o : Fin 256) : EReal := val_main_v20 (F := Ideal) x0 x1 x2 x3 x4 x5 (ix4 b n p o)

/-- The mean over the channels. -/
theorem ref_mean (b : Fin 16) (n p : Fin 64) :
    val_main_v24 (F := Ideal) x0 x1 x2 x3 x4 x5 (ix4 b n p (0 : Fin 1)) = mean (secondRow x0 x1 x2 x3 x4 x5 b n p) := by
  rw [val_main_v24_apply, val_main_v22_apply, val_main_v21_apply, val_main_v23_apply, val_main_cst_2_apply, val_main_cst_1_apply,
    show idx_main_v22 (ix4 b n p (0 : Fin 1)) = ix3 b n p from eq_ix3 _]
  simp only [Ideal.hostDivf_def, Ideal.ofBits_def, zero_word, width_word, zero_add]
  rw [Finset.sum_congr rfl fun k _ => congrArg (val_main_v20 (F := Ideal) x0 x1 x2 x3 x4 x5)
    (show idx_main_v21 (ix3 b n p) k = ix4 b n p k from eq_ix4 _)]
  rfl

/-- The mean the variance is taken about is the same one. -/
theorem ref_var_mean : val_main_call6_v3 (F := Ideal) x0 x1 x2 x3 x4 x5 = val_main_v24 (F := Ideal) x0 x1 x2 x3 x4 x5 := rfl

/-- The variance's divisor, the number of channels less no degree of freedom. -/
theorem ref_divisor (i : S_.Idx) : val_main_call6_v8 (F := Ideal) i = ((256 : ℝ) : EReal) := by
  rw [val_main_call6_v8_apply, val_main_call6_cst_1_apply, val_main_call6_v7_apply, val_main_c_apply]
  change Ideal.ofBits .f32 0x43800000#32 - (((0#32 : BitVec 32).toInt : ℝ) : EReal) = _
  rw [width_word]
  simp

/-- The squared deviation from the mean. -/
theorem ref_deviation (b : Fin 16) (n p : Fin 64) (o : Fin 256) :
    val_main_call6_v6 (F := Ideal) x0 x1 x2 x3 x4 x5 (ix4 b n p o)
      = (secondRow x0 x1 x2 x3 x4 x5 b n p o - mean (secondRow x0 x1 x2 x3 x4 x5 b n p))
        * (secondRow x0 x1 x2 x3 x4 x5 b n p o - mean (secondRow x0 x1 x2 x3 x4 x5 b n p)) := by
  rw [val_main_call6_v6_apply, val_main_call6_v5_apply, val_main_call6_v4_apply, ref_var_mean,
    show idx_main_call6_v4 (ix4 b n p o) = ix4 b n p (0 : Fin 1) from eq_ix4 _, ref_mean]
  rfl

/-- The variance over the channels: the mean squared deviation, the divisor being positive. -/
theorem ref_variance (b : Fin 16) (n p : Fin 64) :
    val_main_v25 (F := Ideal) x0 x1 x2 x3 x4 x5 (ix4 b n p (0 : Fin 1))
      = mean (fun o => (secondRow x0 x1 x2 x3 x4 x5 b n p o - mean (secondRow x0 x1 x2 x3 x4 x5 b n p))
          * (secondRow x0 x1 x2 x3 x4 x5 b n p o - mean (secondRow x0 x1 x2 x3 x4 x5 b n p))) := by
  have hpos : ∀ i, val_main_call6_v13 (F := Ideal) i = 1#1 := by
    intro i
    rw [val_main_call6_v13_apply, ref_divisor, val_main_call6_cst_3_apply, Ideal.cmpf_def, Ideal.ofBits_def, zero_word]
    simp only [Ideal.cmp]
    exact congrArg BitVec.ofBool (decide_eq_true (by exact_mod_cast (by norm_num : (0 : ℝ) < 256)))
  unfold val_main_v25
  change Scalar.select (val_main_call6_v13 (F := Ideal) _) (val_main_call6_v12 (F := Ideal) x0 x1 x2 x3 x4 x5 (ix4 b n p (0 : Fin 1))) _ = _
  rw [hpos, select_one, val_main_call6_v12_apply, val_main_call6_v10_apply, val_main_call6_v9_apply, val_main_call6_v11_apply, ref_divisor,
    val_main_call6_cst_2_apply, show idx_main_call6_v10 (ix4 b n p (0 : Fin 1)) = ix3 b n p from eq_ix3 _]
  simp only [Ideal.hostDivf_def, Ideal.ofBits_def, zero_word, zero_add]
  rw [Finset.sum_congr rfl fun k _ => (congrArg (val_main_call6_v6 (F := Ideal) x0 x1 x2 x3 x4 x5)
    (show idx_main_call6_v9 (ix3 b n p) k = ix4 b n p k from eq_ix4 _)).trans (ref_deviation b n p k)]
  rfl

/-- THE REFERENCE: its result, element by element, is the plain row. -/
theorem reference_at (b : Fin 16) (n p : Fin 64) (o : Fin 256) :
    val_main_v38 (F := Ideal) x0 x1 x2 x3 x4 x5 x6 x7 (ix4 b n p o)
      = plainRow (fun d => x0 (ix4 b n p d)) (fun o d => x2 (ix3 (regime x1 hr b) o d)) (fun o => x3 (ix2 (regime x1 hr b) o))
          (fun o d => x4 (ix3 (regime x1 hr b) o d)) (fun o => x5 (ix2 (regime x1 hr b) o)) (x6 (ix2 (regime x1 hr b) o))
          (x7 (ix2 (regime x1 hr b) o)) o := by
  rw [val_main_v38_apply, val_main_v37_apply, val_main_v36_apply, show idx_main_v36 (idx_main_v37 (ix4 b n p o)) = ix2 b o from eq_ix2 _,
    show val_main_v5 (F := Ideal) x1 x7 = val_main_v1 (F := Ideal) x1 x7 from rfl, take_vector hr,
    val_main_v35_apply, val_main_v34_apply, val_main_v33_apply, show idx_main_v33 (idx_main_v34 (ix4 b n p o)) = ix2 b o from eq_ix2 _,
    show val_main_v4 (F := Ideal) x1 x6 = val_main_v1 (F := Ideal) x1 x6 from rfl, take_vector hr,
    val_main_v32_apply, val_main_v27_apply, val_main_v26_apply, show idx_main_v26 (ix4 b n p o) = ix4 b n p (0 : Fin 1) from eq_ix4 _, ref_mean,
    val_main_v31_apply, show idx_main_v31 (ix4 b n p o) = ix4 b n p (0 : Fin 1) from eq_ix4 _, val_main_v30_apply, val_main_v29_apply,
    ref_variance, val_main_v28_apply, val_main_cst_3_apply]
  simp only [Ideal.hostDivf_def, Ideal.subf_def, Ideal.addf_def, Ideal.mulf_def, Ideal.hostUnary_sqrt_def, Ideal.ofBits_def, eps_word]
  unfold plainRow normDeviation
  rw [show secondRow x0 x1 x2 x3 x4 x5 b n p = _ from funext fun o => ref_second hr b n p o, ref_second hr]

end

end Cert.Proof

end
-- ==== Proof.Equation.lean ====
/- The equation: on arguments that are real numbers, with every regime in range, the kernel's result is the reference's. -/
module

public import proofs.«01_k».proof.Proof.Array
public import proofs.«01_k».proof.Proof.Reference

@[expose] public section

noncomputable section

namespace Cert.Proof

open Idealize.ShloMosaic Idealize.ShloMosaic.TcCoe Idealize.ShloMosaic.ValueIdx
open Cert.KernelIdeal Cert.KernelIdeal.Gen Cert.Proof.Rows

variable (m : (ℓ : Loc nD τ sig) → Buf (Elt Ideal) ℓ) (hO : Ok (F := Ideal) m) (hr : ∀ i, (tbl m 0 i).toNat < 8) (c : Dev nD)

/-- The row of an example's 4096 that grid position `(n, p)` is. -/
def flatRow (n p : Fin 64) : Fin 4096 := ⟨64 * n.val + p.val, by omega⟩

/-- The result array at grid position `(n, p)` is the fused row over the launch's arguments. -/
theorem result_fused (b : Fin 16) (n p : Fin 64) (o : Fin 256) :
    resultAt m hr c b (flatRow n p) o
      = fusedRow (fun d => aX m c (ix4 b n p d)) (fun o d => aW1 m c (ix3 (tableRegime m hr b) o d)) (fun o => aB1 m c (ix2 (tableRegime m hr b) o))
          (fun o d => aW2 m c (ix3 (tableRegime m hr b) o d)) (fun o => aB2 m c (ix2 (tableRegime m hr b) o))
          (aG m c (ix2 (tableRegime m hr b) o)) (aB m c (ix2 (tableRegime m hr b) o)) o := by
  unfold resultAt fusedRow
  simp only [hX_at m c b (flatRow n p) n p rfl, hW1_at m c, hW2_at m c, hP_first m c, hP_second m c, hP_third m c, hP_fourth m c]

/-- The reshape of the flattened array, read at a grid position. -/
theorem unflatten_at (x : Vec Ideal S16x4096x256 .f32) (b : Fin 16) (n p : Fin 64) (o : Fin 256) :
    shapeCast S16x64x64x256 x shapeCasts_S16x4096x256_S16x64x64x256 (ix4 b n p o) = x (ix3 b (flatRow n p) o) := by
  refine shapeCast_apply _ _ _ _ ?_
  rw [Shape.rowMajor_val_four, Shape.rowMajor_val_three]
  show (b.val * 4096 + (64 * n.val + p.val)) * 256 + o.val = ((b.val * 64 + n.val) * 64 + p.val) * 256 + o.val
  ring

/-- The regime the table names is the regime argument's, on every device. -/
theorem regime_eq (hR : ∀ i, (aR m c i).toNat < 8) (b : Fin 16) : tableRegime m hr b = regime (aR m c) hR b := by
  obtain rfl : c = 0 := Subsingleton.elim _ _
  refine Fin.ext ?_
  show (tbl m 0 (ix1 b)).toNat = (aR m 0 (ix1 b)).toNat
  exact congrArg BitVec.toNat (congrFun (tbl_eq m) (ix1 b))

/-- The reference's result of the kernel's arguments. -/
abbrev wanted : Vec Ideal S16x64x64x256 .f32 :=
  Cert.ReferenceIdeal.Read.val_main_v38 (F := Ideal) (aX m c) (aR m c) (aW1 m c) (aB1 m c) (aW2 m c) (aB2 m c) (aG m c) (aB m c)

/-- THE EQUATION: under the precondition the reshaped result array is the reference's result. -/
theorem result_eq (h : Cert.Pre_KernelIdeal_finite_in_range m) :
    shapeCast S16x64x64x256 (resultArray m hr c) shapeCasts_S16x4096x256_S16x64x64x256 = wanted m c := by
  obtain ⟨hR, hx, hw1, hb1, hw2, hb2⟩ := finite_in_range (h c)
  funext i
  obtain ⟨b, n, p, o, rfl⟩ : ∃ (b : Fin 16) (n p : Fin 64) (o : Fin 256), i = ix4 b n p o := ⟨i 0, i 1, i 2, i 3, eq_ix4 _⟩
  refine (unflatten_at _ b n p o).trans ((result_fused m hr c b n p o).trans ?_)
  rw [regime_eq m hr c hR]
  exact (fusedRow_eq (fun d => hx _) (fun o d => hw1 _) (fun o => hb1 _) (fun o d => hw2 _) (fun o => hb2 _) _ _ o).trans
    (Cert.Proof.reference_at hR b n p o).symm

/-- The host's reshape after the launch reads the result array. -/
theorem tail_eq : Pipeline.afterTail pcfgs (fun _ => adm m hO) (dats m hO) 0 (V0 m) [hostOps1] c main_v0
    = shapeCast S16x64x64x256 (resultArray m hr c) shapeCasts_S16x4096x256_S16x64x64x256 := by
  unfold Pipeline.afterTail
  show StableHlo.after hostOps1 _ (Proc.devRef .tc main_v0) = _
  after_results
  refine congrArg (fun x => shapeCast S16x64x64x256 x shapeCasts_S16x4096x256_S16x64x64x256) ?_
  exact (Pipeline.withArrays_arr spec0 (by decide) c (V0 m c) _ 4).trans (final_array m hO hr c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_regimes_in_range
public import proofs.«01_k».proof.Proof.Gen.Pre_finite_in_range
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The original program runs to an end, keeps its arguments and leaves every counter at zero, with every regime in range. -/
theorem frame_Kernel : Cert.quiescent_Kernel := fun m ρ h => Cert.Kernel.Gen.frame m ρ (ok_Kernel m h)

/-- So does the idealized program. -/
theorem frame_KernelIdeal : Cert.quiescent_KernelIdeal := fun m ρ h => Cert.KernelIdeal.Gen.frame m ρ (ok_KernelIdeal m h)

/-- So does the idealized program under the value claim's precondition. -/
theorem frame_KernelIdeal_finite : Cert.quiescent_KernelIdeal_pre_finite_in_range := fun m ρ h =>
  Cert.KernelIdeal.Gen.frame m ρ (ok_finite m h)

/-- The reference runs to an end and keeps its arguments; it has no counter. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same under the value claim's precondition. -/
theorem frame_ReferenceIdeal_finite : Cert.quiescent_ReferenceIdeal_pre_finite_in_range := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The named constant's value rounds to the word the program holds. -/
theorem preserves : Cert.preserves_Kernel_KernelIdeal :=
  IdealRules.named_const.statement Cert.KernelIdeal.κ "half_over_c" .f32 0x3F3504F3#32 ((8388608 / 11863283 : ℝ) : EReal) rfl

/-- The idealized program's run, with its result: the reference's result of its arguments. -/
theorem kernel_run (m : (ℓ : Loc Cert.KernelIdeal.nD Cert.KernelIdeal.τ Cert.KernelIdeal.sig) → Buf (Elt Ideal) ℓ)
    (ρ : Dev Cert.KernelIdeal.nD → PrngReg) (h : Cert.Pre_KernelIdeal_finite_in_range m) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD, r.2.mem ((c.tc : Thread Cert.KernelIdeal.nD Cert.KernelIdeal.τ).loc Cert.KernelIdeal.main_v0) = wanted m c :=
  (θ_run Cert.KernelIdeal.defs _ _).mono
    (fun r hr c => ((hr c).2 Cert.KernelIdeal.main_v0 (by decide : Cert.KernelIdeal.main_v0 ∈ Pipeline.restRefs Cert.KernelIdeal.sig Cert.KernelIdeal.spec0)).trans
      ((tail_eq m (ok_finite m h) (fun i => (congrArg BitVec.toNat (congrFun (tbl_eq m) i)).trans_lt ((finite_in_range (h 0)).1 i)) c).trans
        (result_eq m _ c h)))
    (Cert.KernelIdeal.Gen.run_main m ρ (ok_finite m h))

/-- THE VALUE CLAIM: from equal arguments that the precondition admits, both programs end with the same result. -/
theorem algebraic : Cert.algebraic_KernelIdeal_ReferenceIdeal_pre_finite_in_range := by
  intro m ρ m' ρ' hpre hargs
  refine ⟨fun c => wanted m c, ?_, ?_⟩
  · exact (θ_run Cert.KernelIdeal.defs _ _).mono (fun r h c => ⟨h.1 c, h.2 c⟩)
      (θ_run_and (kernel_run m ρ hpre) (Cert.KernelIdeal.Gen.unchanged m ρ (ok_finite m hpre)))
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v38_eq (StableHlo.launchContents m' c)).trans ?_
    obtain ⟨e0, e1, e2, e3, e4, e5, e6, e7⟩ := hargs c
    show Cert.ReferenceIdeal.Read.val_main_v38 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [e0, e1, e2, e3, e4, e5, e6, e7]

/-- Every claim of the certificate, together. -/
theorem claim : Cert.Claim := ⟨Cert.Kernel.Gen.facts, Cert.KernelIdeal.Gen.facts, Cert.ReferenceIdeal.Gen.facts,
  Cert.Pre_regimes_in_range.Gen.facts, Cert.Pre_finite_in_range.Gen.facts,
  frame_Kernel, frame_KernelIdeal, frame_KernelIdeal_finite, frame_ReferenceIdeal, frame_ReferenceIdeal_finite, preserves, algebraic⟩

end Cert.Proof

end
